-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel7 (m : (ℓ : Loc Cert.Kernel7.nD Cert.Kernel7.τ Cert.Kernel7.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Kernel2Ideal (m : (ℓ : Loc Cert.Kernel2Ideal.nD Cert.Kernel2Ideal.τ Cert.Kernel2Ideal.sig) → Buf (Elt Ideal) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7Ideal (m : (ℓ : Loc Cert.Kernel7Ideal.nD Cert.Kernel7Ideal.τ Cert.Kernel7Ideal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v62)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v62) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v129) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernel2 : Cert.Kernel2.Facts) (hKernel3 : Cert.Kernel3.Facts) (hKernel4 : Cert.Kernel4.Facts) (hKernel5 : Cert.Kernel5.Facts) (hKernel6 : Cert.Kernel6.Facts) (hKernel7 : Cert.Kernel7.Facts) (hKernelIdeal : Cert.KernelIdeal.Facts) (hKernel2Ideal : Cert.Kernel2Ideal.Facts) (hKernel3Ideal : Cert.Kernel3Ideal.Facts) (hKernel4Ideal : Cert.Kernel4Ideal.Facts) (hKernel5Ideal : Cert.Kernel5Ideal.Facts) (hKernel6Ideal : Cert.Kernel6Ideal.Facts) (hKernel7Ideal : Cert.Kernel7Ideal.Facts) (hReferenceIdeal : Cert.ReferenceIdeal.Facts) (hReference2Ideal : Cert.Reference2Ideal.Facts) (hReference3Ideal : Cert.Reference3Ideal.Facts) (hReference4Ideal : Cert.Reference4Ideal.Facts) (hReference5Ideal : Cert.Reference5Ideal.Facts) (hReference6Ideal : Cert.Reference6Ideal.Facts) (hReference7Ideal : Cert.Reference7Ideal.Facts) (hPre_finite_qk : Cert.Pre_finite_qk.Facts),
    quiescent_Kernel (hKernel := hKernel)
    ∧ quiescent_Kernel2 (hKernel2 := hKernel2)
    ∧ quiescent_Kernel3 (hKernel3 := hKernel3)
    ∧ quiescent_Kernel4 (hKernel4 := hKernel4)
    ∧ quiescent_Kernel5 (hKernel5 := hKernel5)
    ∧ quiescent_Kernel6 (hKernel6 := hKernel6)
    ∧ quiescent_Kernel7 (hKernel7 := hKernel7)
    ∧ quiescent_KernelIdeal (hKernelIdeal := hKernelIdeal)
    ∧ quiescent_KernelIdeal_pre_finite_qk (hKernelIdeal := hKernelIdeal) (hPre_finite_qk := hPre_finite_qk)
    ∧ quiescent_Kernel2Ideal (hKernel2Ideal := hKernel2Ideal)
    ∧ quiescent_Kernel3Ideal (hKernel3Ideal := hKernel3Ideal)
    ∧ quiescent_Kernel4Ideal (hKernel4Ideal := hKernel4Ideal)
    ∧ quiescent_Kernel5Ideal (hKernel5Ideal := hKernel5Ideal)
    ∧ quiescent_Kernel6Ideal (hKernel6Ideal := hKernel6Ideal)
    ∧ quiescent_Kernel7Ideal (hKernel7Ideal := hKernel7Ideal)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Reference2Ideal (hReference2Ideal := hReference2Ideal)
    ∧ quiescent_Reference3Ideal (hReference3Ideal := hReference3Ideal)
    ∧ quiescent_Reference4Ideal (hReference4Ideal := hReference4Ideal)
    ∧ quiescent_Reference5Ideal (hReference5Ideal := hReference5Ideal)
    ∧ quiescent_Reference6Ideal (hReference6Ideal := hReference6Ideal)
    ∧ quiescent_Reference7Ideal (hReference7Ideal := hReference7Ideal)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ algebraic_KernelIdeal_ReferenceIdeal_pre_finite_qk (hKernelIdeal := hKernelIdeal) (hReferenceIdeal := hReferenceIdeal) (hPre_finite_qk := hPre_finite_qk)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
-- ==== Pre_finite_qk.lean ====
abbrev S4x4096x8x192 : Shape := ⟨4, ![4, 4096, 8, 192]⟩
abbrev S4x4096x8x128 : Shape := ⟨4, ![4, 4096, 8, 128]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel

variable [Facts]

def fn {F : FTy → Type} [FloatOps F] (main_arg0 : FVec F S4x4096x8x192 .f32) (main_arg1 : FVec F S4x4096x8x192 .f32) (main_arg2 : FVec F S4x4096x8x128 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x4096x8x192 .f32 := Host.absf main_arg1
  let main_cst_0 : FVec F S_ .f32 := constant S_ .f32 0x7F800000#32
  let main_v5 : FVec F S4x4096x8x192 .f32 := broadcastInDim S4x4096x8x192 ![] bcast_S_S4x4096x8x192 main_cst_0
  let main_v6 : IVec S4x4096x8x192 1 := cmpf .olt main_v4 main_v5
  let main_c_1 : IVec S_ 1 := constantI S_ 1 1#1
  let main_v7 : IVec S_ 1 := (fun x v => Host.reduce IntOp.andi x v reducesTo_S4x4096x8x192_S_d0_1_2_3 h_S_) main_v6 main_c_1
  let main_v8 : IVec S_ 1 := andi main_v3 main_v7
  main_v8
-- ==== Kernel.lean ====
abbrev S4x4096x8x192 : Shape := ⟨4, ![4, 4096, 8, 192]⟩
abbrev S4x4096x8x128 : Shape := ⟨4, ![4, 4096, 8, 128]⟩
abbrev S_ : Shape := ⟨0, ![]⟩
abbrev S4x4096x8x64 : Shape := ⟨4, ![4, 4096, 8, 64]⟩
abbrev S4x4096x8x256 : Shape := ⟨4, ![4, 4096, 8, 256]⟩
abbrev S16384x2048 : Shape := ⟨2, ![16384, 2048]⟩
abbrev S4x4096x2048 : Shape := ⟨3, ![4, 4096, 2048]⟩
abbrev S4x4096x1024 : Shape := ⟨3, ![4, 4096, 1024]⟩
abbrev S1x1024x256 : Shape := ⟨3, ![1, 1024, 256]⟩
abbrev S1x4096x256 : Shape := ⟨3, ![1, 4096, 256]⟩
abbrev S1x1024x128 : Shape := ⟨3, ![1, 1024, 128]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 27
  | .vmem => 8
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S_, .f32⟩
  | .hbm, ⟨4, _⟩ => ⟨S4x4096x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x192, .f32⟩
  | .hbm, ⟨11, _⟩ => ⟨S4x4096x8x192, .f32⟩
  | .hbm, ⟨12, _⟩ => ⟨S4x4096x8x256, .f32⟩
  | .hbm, ⟨13, _⟩ => ⟨S4x4096x8x256, .bf16⟩
  | .hbm, ⟨14, _⟩ => ⟨S16384x2048, .bf16⟩
  | .hbm, ⟨15, _⟩ => ⟨S4x4096x8x256, .f32⟩
  | .hbm, ⟨16, _⟩ => ⟨S4x4096x8x256, .bf16⟩
  | .hbm, ⟨17, _⟩ => ⟨S16384x2048, .bf16⟩
  | .hbm, ⟨18, _⟩ => ⟨S_, .f32⟩
  | .hbm, ⟨19, _⟩ => ⟨S4x4096x8x128, .f32⟩
  | .hbm, ⟨20, _⟩ => ⟨S4x4096x8x256, .f32⟩
  | .hbm, ⟨21, _⟩ => ⟨S4x4096x8x256, .bf16⟩
  | .hbm, ⟨22, _⟩ => ⟨S16384x2048, .bf16⟩
  | .hbm, ⟨23, _⟩ => ⟨S4x4096x2048, .bf16⟩
  | .hbm, ⟨24, _⟩ => ⟨S4x4096x2048, .bf16⟩
  | .hbm, ⟨25, _⟩ => ⟨S4x4096x2048, .bf16⟩
  | .hbm, ⟨26, _⟩ => ⟨S4x4096x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1024x128, .bf16⟩
  | .local _ .vmem, ⟨7, _⟩ => ⟨S1x1024x128, .bf16⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2.lean ====
abbrev S16384x4096 : Shape := ⟨2, ![16384, 4096]⟩
abbrev S4096x22016 : Shape := ⟨2, ![4096, 22016]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩
abbrev S1024x4096 : Shape := ⟨2, ![1024, 4096]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S4096x22016, .bf16⟩
  | .hbm, ⟨3, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3.lean ====
abbrev S16384x4096 : Shape := ⟨2, ![16384, 4096]⟩
abbrev S4096x25664 : Shape := ⟨2, ![4096, 25664]⟩
abbrev S25664x4096 : Shape := ⟨2, ![25664, 4096]⟩
abbrev S16384x16384 : Shape := ⟨2, ![16384, 16384]⟩
abbrev S2048x4096 : Shape := ⟨2, ![2048, 4096]⟩
abbrev S512x4096 : Shape := ⟨2, ![512, 4096]⟩
abbrev S2048x512 : Shape := ⟨2, ![2048, 512]⟩
abbrev S256x4096 : Shape := ⟨2, ![256, 4096]⟩
abbrev S2048x256 : Shape := ⟨2, ![2048, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x25664, .f32⟩
  | .hbm, ⟨2, _⟩ => ⟨S25664x4096, .f32⟩
  | .hbm, ⟨3, _⟩ => ⟨S16384x4096, .f32⟩
  | .hbm, ⟨4, _⟩ => ⟨S16384x4096, .bf16⟩
  | .hbm, ⟨5, _⟩ => ⟨S16384x16384, .bf16⟩
  | .local _ .vmem, ⟨0, _⟩ => ⟨S2048x4096, .bf16⟩
  | .local _ .vmem, ⟨1, _⟩ => ⟨S2048x4096, .bf16⟩
  | .local _ .vmem, ⟨2, _⟩ => ⟨S512x4096, .bf16⟩
  | .local _ .vmem, ⟨3, _⟩ => ⟨S512x4096, .bf16⟩
  | .local _ .vmem, ⟨4, _⟩ => ⟨S2048x512, .bf16⟩
  | .local _ .vmem, ⟨5, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩
abbrev S512x256 : Shape := ⟨2, ![512, 256]⟩
abbrev S11008x256 : Shape := ⟨2, ![11008, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel5.lean ====
abbrev S16384x1024 : Shape := ⟨2, ![16384, 1024]⟩
abbrev S4x1024x4096 : Shape := ⟨3, ![4, 1024, 4096]⟩
abbrev S16384x16384 : Shape := ⟨2, ![16384, 16384]⟩
abbrev S16384x4096 : Shape := ⟨2, ![16384, 4096]⟩
abbrev S1024x1024 : Shape := ⟨2, ![1024, 1024]⟩
abbrev S4x1024x1024 : Shape := ⟨3, ![4, 1024, 1024]⟩
abbrev S1024x256 : Shape := ⟨2, ![1024, 256]⟩
abbrev S1x1024x256 : Shape := ⟨3, ![1, 1024, 256]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x1024x4096, .f32⟩
  | .hbm, ⟨5, _⟩ => ⟨S16384x16384, .bf16⟩
  | .hbm, ⟨6, _⟩ => ⟨S4x1024x4096, .bf16⟩
  | .hbm, ⟨7, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x1024x1024, .bf16⟩
  | .local _ .vmem, ⟨9, _⟩ => ⟨S4x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel6.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S1024x256 : Shape := ⟨2, ![1024, 256]⟩
abbrev S4096x256 : Shape := ⟨2, ![4096, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel7.lean ====
abbrev S16384x4096 : Shape := ⟨2, ![16384, 4096]⟩
abbrev S4096x25664 : Shape := ⟨2, ![4096, 25664]⟩
abbrev S2x128 : Shape := ⟨2, ![2, 128]⟩
abbrev S19 : Shape := ⟨1, ![19]⟩
abbrev S9728 : Shape := ⟨1, ![9728]⟩
abbrev S_ : Shape := ⟨0, ![]⟩
abbrev S1x128 : Shape := ⟨2, ![1, 128]⟩
abbrev S128 : Shape := ⟨1, ![128]⟩
abbrev S8x128 : Shape := ⟨2, ![8, 128]⟩
abbrev S1024 : Shape := ⟨1, ![1024]⟩
abbrev S256 : Shape := ⟨1, ![256]⟩
abbrev S1 : Shape := ⟨1, ![1]⟩
abbrev S25664x4096 : Shape := ⟨2, ![25664, 4096]⟩
abbrev S1600x4096 : Shape := ⟨2, ![1600, 4096]⟩
abbrev S32x4096 : Shape := ⟨2, ![32, 4096]⟩
abbrev S384x4096 : Shape := ⟨2, ![384, 4096]⟩
abbrev S7680x4096 : Shape := ⟨2, ![7680, 4096]⟩
abbrev S9728x4096 : Shape := ⟨2, ![9728, 4096]⟩
abbrev S1x9728 : Shape := ⟨2, ![1, 9728]⟩
abbrev S16384x9728 : Shape := ⟨2, ![16384, 9728]⟩
abbrev S2048x4096 : Shape := ⟨2, ![2048, 4096]⟩
abbrev S512x4096 : Shape := ⟨2, ![512, 4096]⟩
abbrev S1x512 : Shape := ⟨2, ![1, 512]⟩
abbrev S2048x512 : Shape := ⟨2, ![2048, 512]⟩
abbrev S256x4096 : Shape := ⟨2, ![256, 4096]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S1x256 : Shape := ⟨2, ![1, 256]⟩

abbrev nBuf : Space → Nat
  | .hbm => 80
  | .vmem => 10
  | .smem => 1
  | _ => 0

abbrev bufTy : (tb : Table) → Fin (tcTables nBuf tb) → BufTy
  | .hbm, ⟨0, _⟩ => ⟨S16384x4096, .bf16⟩
  | .hbm, ⟨1, _⟩ => ⟨S4096x25664, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S19, .i32⟩
  | .hbm, ⟨6, _⟩ => ⟨S9728, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S8x128, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S8x128, .f32⟩
  | .hbm, ⟨23, _⟩ => ⟨S1024, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S8x128, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S8x128, .f32⟩
  | .hbm, ⟨35, _⟩ => ⟨S1024, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S8x128, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S2x128, .f32⟩
  | .hbm, ⟨47, _⟩ => ⟨S256, .f32⟩
  | .hbm, ⟨48, _⟩ => ⟨S_, .f32⟩
  | .hbm, ⟨49, _⟩ => ⟨S9728, .f32⟩
  | .hbm, ⟨50, _⟩ => ⟨S_, .i32⟩
  | .hbm, ⟨51, _⟩ => ⟨S1, .i32⟩
  | .hbm, ⟨52, _⟩ => ⟨S9728, .f32⟩
  | .hbm, ⟨53, _⟩ => ⟨S_, .i32⟩
  | .hbm, ⟨54, _⟩ => ⟨S1, .i32⟩
  | .hbm, ⟨55, _⟩ => ⟨S9728, .f32⟩
  | .hbm, ⟨56, _⟩ => ⟨S_, .i32⟩
  | .hbm, ⟨57, _⟩ => ⟨S1, .i32⟩
  | .hbm, ⟨58, _⟩ => ⟨S9728, .f32⟩
  | .hbm, ⟨59, _⟩ => ⟨S_, .i32⟩
  | .hbm, ⟨60, _⟩ => ⟨S1, .i32⟩
  | .hbm, ⟨61, _⟩ => ⟨S9728, .f32⟩
  | .hbm, ⟨62, _⟩ => ⟨S_, .i32⟩
  | .hbm, ⟨63, _⟩ => ⟨S1, .i32⟩
  | .hbm, ⟨64, _⟩ => ⟨S9728, .f32⟩
  | .hbm, ⟨65, _⟩ => ⟨S_, .i32⟩
  | .hbm, ⟨66, _⟩ => ⟨S1, .i32⟩
  | .hbm, ⟨67, _⟩ => ⟨S9728, .f32⟩
  | .hbm, ⟨68, _⟩ => ⟨S25664x4096, .f32⟩
  | .hbm, ⟨69, _⟩ => ⟨S1600x4096, .f32⟩
  | .hbm, ⟨70, _⟩ => ⟨S32x4096, .f32⟩
  | .hbm, ⟨71, _⟩ => ⟨S32x4096, .f32⟩
  | .hbm, ⟨72, _⟩ => ⟨S_, .f32⟩
  | .hbm, ⟨73, _⟩ => ⟨S384x4096, .f32⟩
  | .hbm, ⟨74, _⟩ => ⟨S7680x4096, .f32⟩
  | .hbm, ⟨75, _⟩ => ⟨S9728x4096, .f32⟩
  | .hbm, ⟨76, _⟩ => ⟨S9728x4096, .bf16⟩
  | .hbm, ⟨77, _⟩ => ⟨S1x9728, .f32⟩
  | .hbm, ⟨78, _⟩ => ⟨S1x9728, .f32⟩
  | .hbm, ⟨79, _⟩ => ⟨S16384x9728, .bf16⟩
  | .local _ .vmem, ⟨0, _⟩ => ⟨S2048x4096, .bf16⟩
  | .local _ .vmem, ⟨1, _⟩ => ⟨S2048x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .smem, ⟨0, _⟩ => ⟨S19, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_c_3 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 19], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S19 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x8x192 : Shape := ⟨4, ![4, 4096, 8, 192]⟩
abbrev S4x4096x8x128 : Shape := ⟨4, ![4, 4096, 8, 128]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x1024 : Shape := ⟨3, ![4, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x8x4096x4096, .f32⟩
  | .hbm, ⟨4, _⟩ => ⟨S_, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S_, .f32⟩
  | .hbm, ⟨9, _⟩ => ⟨S4x8x4096, .f32⟩
  | .hbm, ⟨10, _⟩ => ⟨S_, .f32⟩
  | .hbm, ⟨11, _⟩ => ⟨S4x8x4096, .f32⟩
  | .hbm, ⟨12, _⟩ => ⟨S4x8x4096, .f32⟩
  | .hbm, ⟨13, _⟩ => ⟨S4x8x4096x1, .f32⟩
  | .hbm, ⟨14, _⟩ => ⟨S4x8x4096x4096, .f32⟩
  | .hbm, ⟨15, _⟩ => ⟨S4x8x4096x4096, .f32⟩
  | .hbm, ⟨16, _⟩ => ⟨S4x8x4096x4096, .f32⟩
  | .hbm, ⟨17, _⟩ => ⟨S_, .f32⟩
  | .hbm, ⟨18, _⟩ => ⟨S4x8x4096, .f32⟩
  | .hbm, ⟨19, _⟩ => ⟨S4x8x4096x1, .f32⟩
  | .hbm, ⟨20, _⟩ => ⟨S4x8x4096x4096, .f32⟩
  | .hbm, ⟨21, _⟩ => ⟨S4x8x4096x4096, .f32⟩
  | .hbm, ⟨22, _⟩ => ⟨S4x8x128x4096, .f32⟩
  | .hbm, ⟨23, _⟩ => ⟨S4x4096x8x128, .f32⟩
  | .hbm, ⟨24, _⟩ => ⟨S4x4096x1024, .f32⟩
  | .hbm, ⟨25, _⟩ => ⟨S4x4096x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Reference2Ideal.lean ====
abbrev S16384x4096 : Shape := ⟨2, ![16384, 4096]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S16384x4096, .f32⟩
  | .hbm, ⟨3, _⟩ => ⟨S16384x22016, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Reference3Ideal.lean ====
abbrev S16384x4096 : Shape := ⟨2, ![16384, 4096]⟩
abbrev S4096x25664 : Shape := ⟨2, ![4096, 25664]⟩
abbrev S4096x16384 : Shape := ⟨2, ![4096, 16384]⟩
abbrev S16384x16384 : Shape := ⟨2, ![16384, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x25664, .f32⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Reference4Ideal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Reference5Ideal.lean ====
abbrev S16384x1024 : Shape := ⟨2, ![16384, 1024]⟩
abbrev S4x1024x4096 : Shape := ⟨3, ![4, 1024, 4096]⟩
abbrev S16384x16384 : Shape := ⟨2, ![16384, 16384]⟩
abbrev S_ : Shape := ⟨0, ![]⟩
abbrev S16384x4096 : Shape := ⟨2, ![16384, 4096]⟩
abbrev S1x1024x4096 : Shape := ⟨3, ![1, 1024, 4096]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x1024x4096, .f32⟩
  | .hbm, ⟨5, _⟩ => ⟨S16384x16384, .bf16⟩
  | .hbm, ⟨6, _⟩ => ⟨S_, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S16384x1024, .f32⟩
  | .hbm, ⟨11, _⟩ => ⟨S1x1024x4096, .f32⟩
  | .hbm, ⟨12, _⟩ => ⟨S1024x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S16384x4096, .f32⟩
  | .hbm, ⟨18, _⟩ => ⟨S16384x1024, .f32⟩
  | .hbm, ⟨19, _⟩ => ⟨S1x1024x4096, .f32⟩
  | .hbm, ⟨20, _⟩ => ⟨S1024x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .bf16⟩
  | .hbm, ⟨25, _⟩ => ⟨S16384x4096, .f32⟩
  | .hbm, ⟨26, _⟩ => ⟨S16384x1024, .f32⟩
  | .hbm, ⟨27, _⟩ => ⟨S1x1024x4096, .f32⟩
  | .hbm, ⟨28, _⟩ => ⟨S1024x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | .hbm, ⟨33, _⟩ => ⟨S16384x4096, .f32⟩
  | .hbm, ⟨34, _⟩ => ⟨S16384x1024, .f32⟩
  | .hbm, ⟨35, _⟩ => ⟨S1x1024x4096, .f32⟩
  | .hbm, ⟨36, _⟩ => ⟨S1024x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Reference6Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Reference7Ideal.lean ====
abbrev S16384x4096 : Shape := ⟨2, ![16384, 4096]⟩
abbrev S4096x25664 : Shape := ⟨2, ![4096, 25664]⟩
abbrev S2x128 : Shape := ⟨2, ![2, 128]⟩
abbrev S4096x9280 : Shape := ⟨2, ![4096, 9280]⟩
abbrev S16384x9280 : Shape := ⟨2, ![16384, 9280]⟩
abbrev S16384x1024 : Shape := ⟨2, ![16384, 1024]⟩
abbrev S16384x512 : Shape := ⟨2, ![16384, 512]⟩
abbrev S16384x32 : Shape := ⟨2, ![16384, 32]⟩
abbrev S16384x256 : Shape := ⟨2, ![16384, 256]⟩
abbrev S_ : Shape := ⟨0, ![]⟩
abbrev S16384x384 : Shape := ⟨2, ![16384, 384]⟩
abbrev S1x128 : Shape := ⟨2, ![1, 128]⟩
abbrev S128 : Shape := ⟨1, ![128]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x2x128 : Shape := ⟨3, ![16384, 2, 128]⟩
abbrev S16384x2 : Shape := ⟨2, ![16384, 2]⟩
abbrev S16384x2x1 : Shape := ⟨3, ![16384, 2, 1]⟩
abbrev S16384x9728 : Shape := ⟨2, ![16384, 9728]⟩

abbrev nBuf : Space → Nat
  | .hbm => 156
  | .vmem => 0
  | .smem => 0
  | _ => 0

abbrev hbmTy0_0 (i : Nat) : BufTy := match i % 128 with
  | 0 => ⟨S16384x4096, .bf16⟩
  | 1 => ⟨S4096x25664, .f32⟩
  | 2 => ⟨S2x128, .f32⟩
  | 3 => ⟨S2x128, .f32⟩
  | 4 => ⟨S2x128, .f32⟩
  | 5 => ⟨S16384x4096, .f32⟩
  | 6 => ⟨S4096x9280, .f32⟩
  | 7 => ⟨S16384x9280, .f32⟩
  | 8 => ⟨S16384x1024, .f32⟩
  | 9 => ⟨S16384x512, .f32⟩
  | 10 => ⟨S16384x32, .f32⟩
  | 11 => ⟨S16384x32, .f32⟩
  | 12 => ⟨S16384x1024, .f32⟩
  | 13 => ⟨S16384x1024, .f32⟩
  | 14 => ⟨S16384x1024, .f32⟩
  | 15 => ⟨S16384x1024, .f32⟩
  | 16 => ⟨S16384x256, .f32⟩
  | 17 => ⟨S16384x256, .f32⟩
  | 18 => ⟨S16384x1024, .f32⟩
  | 19 => ⟨S16384x1024, .f32⟩
  | 20 => ⟨S16384x1024, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S16384x384, .f32⟩
  | 28 => ⟨S1x128, .f32⟩
  | 29 => ⟨S128, .f32⟩
  | 30 => ⟨S16384x8x128, .f32⟩
  | 31 => ⟨S16384x8x128, .f32⟩
  | 32 => ⟨S_, .f32⟩
  | 33 => ⟨S16384x8, .f32⟩
  | 34 => ⟨S16384x8x1, .f32⟩
  | 35 => ⟨S_, .f32⟩
  | 36 => ⟨S16384x8x1, .f32⟩
  | 37 => ⟨S16384x8x1, .f32⟩
  | 38 => ⟨S_, .f32⟩
  | 39 => ⟨S16384x8x1, .f32⟩
  | 40 => ⟨S16384x8x1, .f32⟩
  | 41 => ⟨S16384x8x1, .f32⟩
  | 42 => ⟨S16384x8x128, .f32⟩
  | 43 => ⟨S16384x8x128, .f32⟩
  | 44 => ⟨S1x1x128, .f32⟩
  | 45 => ⟨S16384x8x128, .f32⟩
  | 46 => ⟨S16384x8x128, .f32⟩
  | 47 => ⟨S16384x1024, .f32⟩
  | 48 => ⟨S16384x1024, .f32⟩
  | 49 => ⟨S16384x1024, .f32⟩
  | 50 => ⟨S1x128, .f32⟩
  | 51 => ⟨S128, .f32⟩
  | 52 => ⟨S16384x8x128, .f32⟩
  | 53 => ⟨S16384x8x128, .f32⟩
  | 54 => ⟨S_, .f32⟩
  | 55 => ⟨S16384x8, .f32⟩
  | 56 => ⟨S16384x8x1, .f32⟩
  | 57 => ⟨S_, .f32⟩
  | 58 => ⟨S16384x8x1, .f32⟩
  | 59 => ⟨S16384x8x1, .f32⟩
  | 60 => ⟨S_, .f32⟩
  | 61 => ⟨S16384x8x1, .f32⟩
  | 62 => ⟨S16384x8x1, .f32⟩
  | 63 => ⟨S16384x8x1, .f32⟩
  | 64 => ⟨S16384x8x128, .f32⟩
  | 65 => ⟨S16384x8x128, .f32⟩
  | 66 => ⟨S1x1x128, .f32⟩
  | 67 => ⟨S16384x8x128, .f32⟩
  | 68 => ⟨S16384x8x128, .f32⟩
  | 69 => ⟨S16384x1024, .f32⟩
  | 70 => ⟨S1x128, .f32⟩
  | 71 => ⟨S128, .f32⟩
  | 72 => ⟨S16384x8x128, .f32⟩
  | 73 => ⟨S16384x8x128, .f32⟩
  | 74 => ⟨S_, .f32⟩
  | 75 => ⟨S16384x8, .f32⟩
  | 76 => ⟨S16384x8x1, .f32⟩
  | 77 => ⟨S_, .f32⟩
  | 78 => ⟨S16384x8x1, .f32⟩
  | 79 => ⟨S16384x8x1, .f32⟩
  | 80 => ⟨S_, .f32⟩
  | 81 => ⟨S16384x8x1, .f32⟩
  | 82 => ⟨S16384x8x1, .f32⟩
  | 83 => ⟨S16384x8x1, .f32⟩
  | 84 => ⟨S16384x8x128, .f32⟩
  | 85 => ⟨S16384x8x128, .f32⟩
  | 86 => ⟨S1x1x128, .f32⟩
  | 87 => ⟨S16384x8x128, .f32⟩
  | 88 => ⟨S16384x8x128, .f32⟩
  | 89 => ⟨S16384x1024, .f32⟩
  | 90 => ⟨S16384x1024, .f32⟩
  | 91 => ⟨S16384x1024, .f32⟩
  | 92 => ⟨S1x128, .f32⟩
  | 93 => ⟨S128, .f32⟩
  | 94 => ⟨S16384x2x128, .f32⟩
  | 95 => ⟨S16384x2x128, .f32⟩
  | 96 => ⟨S_, .f32⟩
  | 97 => ⟨S16384x2, .f32⟩
  | 98 => ⟨S16384x2x1, .f32⟩
  | 99 => ⟨S_, .f32⟩
  | 100 => ⟨S16384x2x1, .f32⟩
  | 101 => ⟨S16384x2x1, .f32⟩
  | 102 => ⟨S_, .f32⟩
  | 103 => ⟨S16384x2x1, .f32⟩
  | 104 => ⟨S16384x2x1, .f32⟩
  | 105 => ⟨S16384x2x1, .f32⟩
  | 106 => ⟨S16384x2x128, .f32⟩
  | 107 => ⟨S16384x2x128, .f32⟩
  | 108 => ⟨S1x1x128, .f32⟩
  | 109 => ⟨S16384x2x128, .f32⟩
  | 110 => ⟨S16384x2x128, .f32⟩
  | 111 => ⟨S16384x256, .f32⟩
  | 112 => ⟨S1x128, .f32⟩
  | 113 => ⟨S128, .f32⟩
  | 114 => ⟨S16384x8x128, .f32⟩
  | 115 => ⟨S16384x8x128, .f32⟩
  | 116 => ⟨S_, .f32⟩
  | 117 => ⟨S16384x8, .f32⟩
  | 118 => ⟨S16384x8x1, .f32⟩
  | 119 => ⟨S_, .f32⟩
  | 120 => ⟨S16384x8x1, .f32⟩
  | 121 => ⟨S16384x8x1, .f32⟩
  | 122 => ⟨S_, .f32⟩
  | 123 => ⟨S16384x8x1, .f32⟩
  | 124 => ⟨S16384x8x1, .f32⟩
  | 125 => ⟨S16384x8x1, .f32⟩
  | 126 => ⟨S16384x8x128, .f32⟩
  | 127 => ⟨S16384x8x128, .f32⟩
  | _ => ⟨S16384x4096, .bf16⟩

abbrev hbmTy0_1 (i : Nat) : BufTy := match i % 128 with
  | 0 => ⟨S1x1x128, .f32⟩
  | 1 => ⟨S16384x8x128, .f32⟩
  | 2 => ⟨S16384x8x128, .f32⟩
  | 3 => ⟨S16384x1024, .f32⟩
  | 4 => ⟨S16384x1024, .f32⟩
  | 5 => ⟨S16384x1024, .f32⟩
  | 6 => ⟨S1x128, .f32⟩
  | 7 => ⟨S128, .f32⟩
  | 8 => ⟨S16384x8x128, .f32⟩
  | 9 => ⟨S16384x8x128, .f32⟩
  | 10 => ⟨S_, .f32⟩
  | 11 => ⟨S16384x8, .f32⟩
  | 12 => ⟨S16384x8x1, .f32⟩
  | 13 => ⟨S_, .f32⟩
  | 14 => ⟨S16384x8x1, .f32⟩
  | 15 => ⟨S16384x8x1, .f32⟩
  | 16 => ⟨S_, .f32⟩
  | 17 => ⟨S16384x8x1, .f32⟩
  | 18 => ⟨S16384x8x1, .f32⟩
  | 19 => ⟨S16384x8x1, .f32⟩
  | 20 => ⟨S16384x8x128, .f32⟩
  | 21 => ⟨S16384x8x128, .f32⟩
  | 22 => ⟨S1x1x128, .f32⟩
  | 23 => ⟨S16384x8x128, .f32⟩
  | 24 => ⟨S16384x8x128, .f32⟩
  | 25 => ⟨S16384x1024, .f32⟩
  | 26 => ⟨S16384x9728, .f32⟩
  | 27 => ⟨S16384x9728, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_14 : Ref sig .tc := ⟨.hbm, 116, rfl⟩
abbrev main_v96 : Ref sig .tc := ⟨.hbm, 117, rfl⟩
abbrev main_v97 : Ref sig .tc := ⟨.hbm, 118, rfl⟩
abbrev main_cst_15 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_17 : Ref sig .tc := ⟨.hbm, 138, rfl⟩
abbrev main_v115 : Ref sig .tc := ⟨.hbm, 139, rfl⟩
abbrev main_v116 : Ref sig .tc := ⟨.hbm, 140, rfl⟩
abbrev main_cst_18 : Ref sig .tc := ⟨.hbm, 141, rfl⟩
abbrev main_v117 : Ref sig .tc := ⟨.hbm, 142, rfl⟩
abbrev main_v118 : Ref sig .tc := ⟨.hbm, 143, rfl⟩
abbrev main_cst_19 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩

abbrev nD : Nat := 1
abbrev τ : Topo := Topo.v7x

variable {F : FTy → Type} [FloatOps F]
-- ==== Proof.Softmax.lean ====
module

public import Idealize.ShloMosaic.Lib.Pointwise

@[expose] public section

noncomputable section

open Idealize.ShloMosaic

namespace Cert.Softmax

/-- An extended real that is a real number. -/
def IsReal (x : EReal) : Prop := ∃ r : ℝ, x = (r : EReal)

theorem IsReal.coe (r : ℝ) : IsReal (r : EReal) := ⟨r, rfl⟩

theorem IsReal.max {x y : EReal} (hx : IsReal x) (hy : IsReal y) : IsReal (max x y) := by
  rcases le_total x y with h | h
  · rw [max_eq_right h]; exact hy
  · rw [max_eq_left h]; exact hx

/-- The largest of finitely many real numbers, started from minus infinity, is a real number unless there are none. -/
theorem isReal_fold {κ : Type*} (s : Finset κ) (f : κ → EReal) (hf : ∀ k ∈ s, IsReal (f k)) :
    (s = ∅ ∧ s.fold max ⊥ f = ⊥) ∨ IsReal (s.fold max ⊥ f) := by
  classical
  induction s using Finset.induction_on with
  | empty => exact .inl ⟨rfl, rfl⟩
  | insert a s ha ih =>
    right
    rw [Finset.fold_insert ha]
    rcases ih (fun k hk => hf k (Finset.mem_insert_of_mem hk)) with ⟨_, h⟩ | h
    · rw [h, max_eq_left bot_le]; exact hf a (Finset.mem_insert_self a s)
    · exact (hf a (Finset.mem_insert_self a s)).max h

theorem isReal_fold_univ {n : Nat} (f : Fin (n + 1) → EReal) (hf : ∀ k, IsReal (f k)) :
    IsReal ((Finset.univ : Finset (Fin (n + 1))).fold max ⊥ f) := by
  rcases isReal_fold Finset.univ f (fun k _ => hf k) with ⟨h, _⟩ | h
  · exact absurd h (Finset.univ_nonempty).ne_empty
  · exact h

/-- A sum of real numbers, taken among the extended reals, is their real sum. -/
theorem coe_sum {κ : Type*} (s : Finset κ) (f : κ → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {κ : Type*} (s : Finset κ) (f : κ → EReal) (hf : ∀ k, IsReal (f k)) : IsReal (∑ k ∈ s, f k) := by
  choose g hg using hf
  exact ⟨∑ k ∈ s, g k, by rw [← coe_sum]; exact Finset.sum_congr rfl fun k _ => hg k⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A nonnegative real factor goes into a sum of extended reals, whatever the terms. -/
theorem mul_sum {κ : Type*} (s : Finset κ) (r : ℝ) (hr : 0 ≤ r) (f : κ → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (EReal.coe_nonneg.2 hr) (EReal.coe_ne_top r)]

/-- Division by a real number other than zero is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

variable {n : Nat} (β : Fin (n + 1) → ℝ) (v : Fin (n + 1) → EReal)

/-- The weight the softmax of the logits `β` gives to place `κ`. -/
def weight (κ : Fin (n + 1)) : ℝ := Real.exp (β κ) / ∑ l, Real.exp (β l)

theorem expSum_pos : 0 < ∑ l, Real.exp (β l) := Finset.sum_pos (fun l _ => Real.exp_pos _) Finset.univ_nonempty

/-- The average of the values with the exponentials of the logits, each less one real shift, as weights, divided by their
    sum, is the softmax's average. -/
theorem shifted (C : ℝ) (hC : 0 < C) :
    Ideal.div (∑ κ, ((C * Real.exp (β κ) : ℝ) : EReal) * v κ) ((∑ κ, C * Real.exp (β κ) : ℝ) : EReal)
      = ∑ κ, v κ * (weight β κ : EReal) := by
  have hS := expSum_pos β
  have hT : 0 < ∑ κ, C * Real.exp (β κ) := by rw [← Finset.mul_sum]; positivity
  rw [div_coe _ _ hT.ne', mul_comm, mul_sum _ _ (inv_nonneg.2 hT.le)]
  refine Finset.sum_congr rfl fun κ _ => ?_
  rw [← mul_assoc, ← EReal.coe_mul, mul_comm (v κ)]
  congr 2
  unfold weight
  rw [← Finset.mul_sum]
  field_simp

/-- The kernel's average: exponentials to base two of the logits divided by `log 2`, less any real shift. -/
theorem base_two (μ : ℝ) :
    Ideal.div (∑ κ, Ideal.exp2 (((β κ / Real.log 2 : ℝ) : EReal) - (μ : EReal)) * v κ)
        (∑ κ, Ideal.exp2 (((β κ / Real.log 2 : ℝ) : EReal) - (μ : EReal)) * 1)
      = ∑ κ, v κ * (weight β κ : EReal) := by
  have h : ∀ κ, Ideal.exp2 (((β κ / Real.log 2 : ℝ) : EReal) - (μ : EReal))
      = ((Real.exp (-(μ * Real.log 2)) * Real.exp (β κ) : ℝ) : EReal) := by
    intro κ
    rw [← EReal.coe_sub, Ideal.exp2_coe]
    congr 1
    show (2 : ℝ) ^ (β κ / Real.log 2 - μ) = _
    have hl : Real.log 2 ≠ 0 := (Real.log_pos one_lt_two).ne'
    rw [Real.rpow_def_of_pos two_pos, ← Real.exp_add]
    congr 1
    field_simp
    ring
  simp only [h, mul_one]
  rw [coe_sum]
  exact shifted β v _ (Real.exp_pos _)

/-- The reference's average: exponentials of the logits less any real shift, each divided by their sum. -/
theorem base_e (ν : ℝ) :
    ∑ κ, v κ * Ideal.div (Ideal.exp ((β κ : EReal) - (ν : EReal))) (0 + ∑ l, Ideal.exp ((β l : EReal) - (ν : EReal)))
      = ∑ κ, v κ * (weight β κ : EReal) := by
  have h : ∀ κ, Ideal.exp ((β κ : EReal) - (ν : EReal)) = ((Real.exp (-ν) * Real.exp (β κ) : ℝ) : EReal) := by
    intro κ
    rw [← EReal.coe_sub, Ideal.exp_coe, ← Real.exp_add]
    congr 2
    ring
  simp only [h, zero_add]
  rw [coe_sum]
  have hS := expSum_pos β
  have he := Real.exp_pos (-ν)
  have hT : 0 < ∑ κ, Real.exp (-ν) * Real.exp (β κ) := by rw [← Finset.mul_sum]; positivity
  refine Finset.sum_congr rfl fun κ _ => ?_
  rw [div_coe _ _ hT.ne', ← EReal.coe_mul]
  congr 2
  unfold weight
  rw [← Finset.mul_sum]
  field_simp

/-- A sum over 4096 places is the sum over eight blocks of 512. -/
theorem sum_blocks (f : Fin 4096 → EReal) :
    ∑ κ, f κ = ∑ j : Fin 8, ∑ i : Fin 512, f ⟨512 * j.val + i.val, by omega⟩ := by
  rw [← Fintype.sum_prod_type']
  refine (Fintype.sum_equiv (finProdFinEquiv (m := 8) (n := 512)) _ _ fun p => ?_).symm
  congr 1
  ext
  simp [finProdFinEquiv]
  omega

end Cert.Softmax
-- ==== Proof.AttnBlock.lean ====
module

public import proofs.«01_k».proof.Defs
public import proofs.«01_k».proof.Proof.Gen.KernelIdeal.Value
public import proofs.«01_k».proof.Proof.Softmax
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Cert.Softmax

namespace Cert.KernelIdeal.RefValue

open Cert.KernelIdeal Cert.KernelIdeal.Gen

/-- The logits of 256 queries and 512 keys. -/
def score (q : Vec Ideal S1x256x256 .bf16) (k : Vec Ideal S1x512x256 .bf16) : FVec Ideal S256x512 .f32 :=
  matmul dot_S256x256_S512x256_S256x512_1_1_0_0_n_n none
    (shapeCast S256x256 q shapeCasts_S1x256x256_S256x256 : FVec Ideal S256x256 .bf16)
    (shapeCast S512x256 k shapeCasts_S1x512x256_S512x256 : FVec Ideal S512x256 .bf16)
    (constant S256x512 .f32 0x00000000#32)

/-- The largest of the four lane groups of a block of logits. -/
def lanes (s : FVec Ideal S256x512 .f32) : FVec Ideal S256x128 .f32 :=
  maximumf (maximumf (maximumf (extractStridedSlice S256x128 ![0, 0] s slices_S256x512_o0_0_S256x128)
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- Each query's largest logit over the eight blocks of keys. -/
def rowMax (s1 s2 s3 s4 s5 s6 s7 s8 : FVec Ideal S256x512 .f32) : FVec Ideal S256x1 .f32 :=
  shapeCast S256x1
    (multiReduction .maximumf [1] S256
      (maximumf (maximumf (maximumf (maximumf (maximumf (maximumf (maximumf
        (lanes s1) (lanes s2)) (lanes s3)) (lanes s4)) (lanes s5)) (lanes s6)) (lanes s7)) (lanes s8))
      0xFF800000#32 reduces_S256x128_S256 (.inl rfl) rfl)
    shapeCasts_S256_S256x1

/-- One block of keys' contribution to the running sums. -/
def part (s : FVec Ideal S256x512 .f32) (M : FVec Ideal S256x1 .f32) (v : Vec Ideal S1x512x256 .bf16)
    (acc : FVec Ideal S256x256 .f32) : FVec Ideal S256x256 .f32 :=
  addf acc (matmul dot_S256x512_S512x256_S256x256_1_0_0_1_n_n none
    (truncf .bf16 (exp2 (subf s (broadcastTo S256x512 M broadcasts_S256x1_S256x512))) bitsLt_bf16_f32)
    (shapeCast S512x256 v shapeCasts_S1x512x256_S512x256 : FVec Ideal S512x256 .bf16)
    (constant S256x256 .f32 0x00000000#32))

/-- The running sums after all eight blocks, from the logits and the values with their columns of ones. -/
def sums (s1 s2 s3 s4 s5 s6 s7 s8 : FVec Ideal S256x512 .f32) (M : FVec Ideal S256x1 .f32)
    (v1 v2 v3 v4 v5 v6 v7 v8 : Vec Ideal S1x512x256 .bf16) : FVec Ideal S256x256 .f32 :=
  part s8 M v8 (part s7 M v7 (part s6 M v6 (part s5 M v5 (part s4 M v4 (part s3 M v3 (part s2 M v2 (part s1 M v1
    (broadcast S256x256 (Scalar.ofBits .f32 0x00000000#32)))))))))

/-- The left half of the sums divided by the right half. -/
def quotient (acc : FVec Ideal S256x256 .f32) : FVec Ideal S1x256x128 .bf16 :=
  shapeCast S1x256x128
    (truncf .bf16 (divf (extractStridedSlice S256x128 ![0, 0] acc slices_S256x256_o0_0_S256x128)
      (extractStridedSlice S256x128 ![0, 128] acc slices_S256x256_o0_128_S256x128)) bitsLt_bf16_f32 : FVec Ideal S256x128 .bf16)
    shapeCasts_S256x128_S1x256x128

/-- The largest logits of 256 queries against the block of all keys. -/
def top (q : Vec Ideal S1x256x256 .bf16) (x1 : Vec Ideal S1x4096x256 .bf16) : FVec Ideal S256x1 .f32 :=
  rowMax (score q (View.ld x1 r0_1)) (score q (View.ld x1 r0_2)) (score q (View.ld x1 r0_3)) (score q (View.ld x1 r0_4))
    (score q (View.ld x1 r0_5)) (score q (View.ld x1 r0_6)) (score q (View.ld x1 r0_7)) (score q (View.ld x1 r0_8))

/-- What 256 queries attend to: their part of the block written. -/
def slab (q : Vec Ideal S1x256x256 .bf16) (x1 x2 : Vec Ideal S1x4096x256 .bf16) : FVec Ideal S1x256x128 .bf16 :=
  quotient (sums (score q (View.ld x1 r0_1)) (score q (View.ld x1 r0_2)) (score q (View.ld x1 r0_3)) (score q (View.ld x1 r0_4))
    (score q (View.ld x1 r0_5)) (score q (View.ld x1 r0_6)) (score q (View.ld x1 r0_7)) (score q (View.ld x1 r0_8)) (top q x1)
    (View.ld x2 r0_1) (View.ld x2 r0_2) (View.ld x2 r0_3) (View.ld x2 r0_4)
    (View.ld x2 r0_5) (View.ld x2 r0_6) (View.ld x2 r0_7) (View.ld x2 r0_8))

/-- The block the body writes is four such parts. -/
theorem out_eq (x0 : Vec Ideal S1x1024x256 .bf16) (x1 x2 : Vec Ideal S1x4096x256 .bf16) :
    out0_3 x0 x1 x2 = View.canon [⟨r0_15, slab (View.ld x0 r0_14) x1 x2⟩, ⟨r0_13, slab (View.ld x0 r0_12) x1 x2⟩,
      ⟨r0_11, slab (View.ld x0 r0_10) x1 x2⟩, ⟨r0_9, slab (View.ld x0 r0_0) x1 x2⟩] := rfl

theorem score_apply (q : Vec Ideal S1x256x256 .bf16) (k : Vec Ideal S1x512x256 .bf16) (r : Fin 256) (n : Fin 512) :
    score q k (ix2 r n) = ∑ d : Fin 256, q (ix3 0 r d) * k (ix3 0 n d) := by
  unfold score
  simp only [pointwise, zero_add]

theorem isReal_lanes (s : FVec Ideal S256x512 .f32) (r : Fin 256) (h : ∀ n, IsReal (s (ix2 r n))) (l : Fin 128) :
    IsReal (lanes s (ix2 r l)) := by
  unfold lanes
  simp only [pointwise]
  have h' (a : Fin 256) (n : Fin 512) (ha : a.val = r.val) : IsReal (s (ix2 a n)) := by
    obtain rfl : a = r := Fin.ext ha
    exact h n
  refine (((h' _ _ ?_).max (h' _ _ ?_)).max (h' _ _ ?_)).max (h' _ _ ?_)
  all_goals exact Nat.zero_add _

/-- The largest of real logits is a real number. -/
theorem isReal_rowMax (s1 s2 s3 s4 s5 s6 s7 s8 : FVec Ideal S256x512 .f32) (r : Fin 256)
    (h1 : ∀ n, IsReal (s1 (ix2 r n))) (h2 : ∀ n, IsReal (s2 (ix2 r n))) (h3 : ∀ n, IsReal (s3 (ix2 r n)))
    (h4 : ∀ n, IsReal (s4 (ix2 r n))) (h5 : ∀ n, IsReal (s5 (ix2 r n))) (h6 : ∀ n, IsReal (s6 (ix2 r n)))
    (h7 : ∀ n, IsReal (s7 (ix2 r n))) (h8 : ∀ n, IsReal (s8 (ix2 r n))) :
    IsReal (rowMax s1 s2 s3 s4 s5 s6 s7 s8 (ix2 r 0)) := by
  unfold rowMax
  simp only [pointwise]
  refine isReal_fold_univ (n := 127) _ fun l => ?_
  exact (((((((isReal_lanes s1 r h1 l).max (isReal_lanes s2 r h2 l)).max (isReal_lanes s3 r h3 l)).max
    (isReal_lanes s4 r h4 l)).max (isReal_lanes s5 r h5 l)).max (isReal_lanes s6 r h6 l)).max
    (isReal_lanes s7 r h7 l)).max (isReal_lanes s8 r h8 l)

theorem part_apply (s : FVec Ideal S256x512 .f32) (M : FVec Ideal S256x1 .f32) (v : Vec Ideal S1x512x256 .bf16)
    (acc : FVec Ideal S256x256 .f32) (r : Fin 256) (c : Fin 256) :
    part s M v acc (ix2 r c)
      = acc (ix2 r c) + ∑ n : Fin 512, Ideal.exp2 (s (ix2 r n) - M (ix2 r 0)) * v (ix3 0 n c) := by
  unfold part
  simp only [pointwise, zero_add]
  rfl

theorem quotient_apply (acc : FVec Ideal S256x256 .f32) (r : Fin 256) (c : Fin 128) :
    quotient acc (ix3 0 r c)
      = Ideal.div (acc (ix2 r (⟨c.val, by omega⟩ : Fin 256))) (acc (ix2 r (⟨128 + c.val, by omega⟩ : Fin 256))) := by
  unfold quotient
  simp only [pointwise]
  exact congrArg₂ Ideal.div
    (congrArg acc (congrArg₂ ix2 (Fin.ext (Nat.zero_add _)) (Fin.ext (Nat.zero_add _))))
    (congrArg acc (congrArg₂ ix2 (Fin.ext (Nat.zero_add _)) rfl))

/-- Row `i` of block `j` of 512 rows. -/
abbrev rowOf (j : Fin 8) (i : Fin 512) : Fin 4096 := ⟨512 * j.val + i.val, by omega⟩

/-- A logit of the whole block of keys. -/
def logit (q : Vec Ideal S1x256x256 .bf16) (x1 : Vec Ideal S1x4096x256 .bf16) (r : Fin 256) (κ : Fin 4096) : EReal :=
  ∑ d : Fin 256, q (ix3 0 r d) * x1 (ix3 0 κ d)

/-- One block of keys' sum, as a sum over those places of all keys. -/
theorem block_sum (q : Vec Ideal S1x256x256 .bf16) (x1 x2 : Vec Ideal S1x4096x256 .bf16) (μ : EReal)
    (r : Fin 256) (c : Fin 256) (j : Fin 8) (y1 y2 : Vec Ideal S1x512x256 .bf16)
    (h1 : ∀ n d, y1 (ix3 0 n d) = x1 (ix3 0 (rowOf j n) d)) (h2 : ∀ n d, y2 (ix3 0 n d) = x2 (ix3 0 (rowOf j n) d)) :
    ∑ n : Fin 512, Ideal.exp2 ((∑ d : Fin 256, q (ix3 0 r d) * y1 (ix3 0 n d)) - μ) * y2 (ix3 0 n c)
      = ∑ n : Fin 512, Ideal.exp2 (logit q x1 r (rowOf j n) - μ) * x2 (ix3 0 (rowOf j n) c) := by
  simp only [h1, h2, logit]

theorem add_congr {a b c d : EReal} (h : a = b) (h' : c = d) : a + c = b + d := by rw [h, h']

/-- A block of 512 rows loaded from the block of all rows. -/
theorem ld_rows (x : Vec Ideal S1x4096x256 .bf16) (o : Nat) (j : Fin 8) (hj : o = 512 * j.val)
    (inb : ∀ a, (![0, o, 0] : Fin 3 → Nat) a + S1x512x256.size a ≤ S1x4096x256.size a) (n : Fin 512) (d : Fin 256) :
    View.ld x (Rect.unit (s := S1x4096x256) ![0, o, 0] S1x512x256.size inb) (ix3 0 n d) = x (ix3 0 (rowOf j n) d) := by
  refine congrArg x (funext fun a => Fin.ext ?_)
  match a with
  | 0 => rfl
  | 1 => rw [Rect.idx_unit_val]; show o + n.val = 512 * j.val + n.val; omega
  | 2 => rw [Rect.idx_unit_val]; show 0 + d.val = d.val; omega

/-- The sums over all keys. -/
theorem sums_apply (q : Vec Ideal S1x256x256 .bf16) (x1 x2 : Vec Ideal S1x4096x256 .bf16) (M : FVec Ideal S256x1 .f32)
    (r : Fin 256) (c : Fin 256) :
    sums (score q (View.ld x1 r0_1)) (score q (View.ld x1 r0_2)) (score q (View.ld x1 r0_3)) (score q (View.ld x1 r0_4))
      (score q (View.ld x1 r0_5)) (score q (View.ld x1 r0_6)) (score q (View.ld x1 r0_7)) (score q (View.ld x1 r0_8)) M
      (View.ld x2 r0_1) (View.ld x2 r0_2) (View.ld x2 r0_3) (View.ld x2 r0_4)
      (View.ld x2 r0_5) (View.ld x2 r0_6) (View.ld x2 r0_7) (View.ld x2 r0_8) (ix2 r c)
      = ∑ κ : Fin 4096, Ideal.exp2 (logit q x1 r κ - M (ix2 r 0)) * x2 (ix3 0 κ c) := by
  have hz : (broadcast S256x256 (Scalar.ofBits .f32 0x00000000#32) : FVec Ideal S256x256 .f32) (ix2 r c) = 0 := by
    simp only [pointwise]
  unfold sums
  simp only [part_apply, hz, zero_add, score_apply]
  rw [sum_blocks, Fin.sum_univ_eight]
  have B (j : Fin 8) (o : Nat) (hj : o = 512 * j.val)
      (inb : ∀ a, (![0, o, 0] : Fin 3 → Nat) a + S1x512x256.size a ≤ S1x4096x256.size a) :=
    block_sum q x1 x2 (M (ix2 r 0)) r c j (View.ld x1 (Rect.unit (s := S1x4096x256) ![0, o, 0] S1x512x256.size inb))
      (View.ld x2 (Rect.unit (s := S1x4096x256) ![0, o, 0] S1x512x256.size inb)) (ld_rows x1 o j hj inb) (ld_rows x2 o j hj inb)
  exact add_congr (add_congr (add_congr (add_congr (add_congr (add_congr (add_congr
    (B 0 0 rfl _) (B 1 512 rfl _)) (B 2 1024 rfl _)) (B 3 1536 rfl _)) (B 4 2048 rfl _)) (B 5 2560 rfl _)) (B 6 3072 rfl _))
    (B 7 3584 rfl _)

/-- One part at an element, by its sums over all keys. -/
theorem slab_apply (q : Vec Ideal S1x256x256 .bf16) (x1 x2 : Vec Ideal S1x4096x256 .bf16) (r : Fin 256) (c : Fin 128) :
    slab q x1 x2 (ix3 0 r c)
      = Ideal.div (∑ κ : Fin 4096, Ideal.exp2 (logit q x1 r κ - top q x1 (ix2 r 0)) * x2 (ix3 0 κ (⟨c.val, by omega⟩ : Fin 256)))
          (∑ κ : Fin 4096, Ideal.exp2 (logit q x1 r κ - top q x1 (ix2 r 0)) * x2 (ix3 0 κ (⟨128 + c.val, by omega⟩ : Fin 256))) := by
  unfold slab
  rw [quotient_apply, sums_apply, sums_apply]

/-- The shift is a real number where the queries and the keys are. -/
theorem isReal_top (q : Vec Ideal S1x256x256 .bf16) (x1 : Vec Ideal S1x4096x256 .bf16) (r : Fin 256)
    (hq : ∀ d, IsReal (q (ix3 0 r d))) (hk : ∀ i, IsReal (x1 i)) : IsReal (top q x1 (ix2 r 0)) := by
  have h (k : Vec Ideal S1x512x256 .bf16) (hk' : ∀ i, IsReal (k i)) (n : Fin 512) : IsReal (score q k (ix2 r n)) := by
    rw [score_apply]
    exact IsReal.sum _ _ fun d => (hq d).mul (hk' _)
  exact isReal_rowMax _ _ _ _ _ _ _ _ r (h _ fun _ => hk _) (h _ fun _ => hk _) (h _ fun _ => hk _) (h _ fun _ => hk _)
    (h _ fun _ => hk _) (h _ fun _ => hk _) (h _ fun _ => hk _) (h _ fun _ => hk _)

end Cert.KernelIdeal.RefValue
-- ==== Proof.AttnHost.lean ====
module

public import proofs.«01_k».proof.Defs
public import proofs.«01_k».proof.Proof.Gen.KernelIdeal.Value
public import proofs.«01_k».proof.Proof.Softmax
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem

namespace Cert.KernelIdeal.RefValue

open Cert.KernelIdeal Cert.KernelIdeal.Gen

/-- A head's lane in the packed layout of 256 lanes a head. -/
def packCol (h : Fin 8) (d : Fin 256) : Fin 2048 := ⟨256 * h.val + d.val, by omega⟩

theorem bits_192 : Ideal.ofBits .f32 0x43400000#32 = ((192 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_one : Ideal.ofBits .f32 0x3F800000#32 = 1 := by
  simp [Ideal.ofBits, Ideal.ieee, -EReal.coe_mul]; norm_num

/-- What the queries are divided by: the square root of 192 times the logarithm of 2. -/
def qScale : ℝ := Real.sqrt 192 * Real.log 2

theorem qScale_pos : 0 < qScale := mul_pos (Real.sqrt_pos.2 (by norm_num)) (Real.log_pos one_lt_two)

theorem scale_eq : Ideal.sqrt (Ideal.ofBits .f32 0x43400000#32) * Ideal.log (Ideal.ofBits .f32 0x40000000#32)
    = (qScale : EReal) := by
  rw [bits_192, bits_two, Ideal.sqrt_coe, Ideal.log_coe, if_neg (by norm_num), if_neg (by norm_num), ← EReal.coe_mul]
  rfl

/-- Packing heads of 256 lanes side by side and unpacking the batch again changes no value. -/
theorem packed (y : S4x4096x8x256.Idx → EReal) (b : Fin 4) (s : Fin 4096) (h : Fin 8) (d : Fin 256) :
    shapeCast S4x4096x2048 (shapeCast S16384x2048 y shapeCasts_S4x4096x8x256_S16384x2048) shapeCasts_S16384x2048_S4x4096x2048
      (ix3 b s (packCol h d)) = y (ix4 b s h d) := by
  rw [shapeCast_apply _ _ _ (ix2 (⟨4096 * b.val + s.val, by omega⟩ : Fin 16384) (packCol h d))
    (by rw [Shape.rowMajor_val_two, Shape.rowMajor_val_three]
        show (4096 * b.val + s.val) * 2048 + (256 * h.val + d.val) = (b.val * 4096 + s.val) * 2048 + (256 * h.val + d.val)
        omega)]
  exact shapeCast_apply _ _ _ (ix4 b s h d)
    (by rw [Shape.rowMajor_val_two, Shape.rowMajor_val_four]
        show ((b.val * 4096 + s.val) * 8 + h.val) * 256 + d.val = (4096 * b.val + s.val) * 2048 + (256 * h.val + d.val)
        omega)

variable (m : (ℓ : Loc nD τ sig) → Buf (Elt Ideal) ℓ)

/-- The queries the kernel is given: divided by the scale, padded with zeros, packed. -/
theorem V_q (c : Dev nD) (b : Fin 4) (s : Fin 4096) (h : Fin 8) (d : Fin 256) :
    V m c main_v16 (ix3 b s (packCol h d))
      = if hd : d.val < 192 then Ideal.div (m ((c : Thread nD τ).loc main_arg0) (ix4 b s h (⟨d.val, hd⟩ : Fin 192))) qScale else 0 := by
  have e : V m c main_v16 = (shapeCast S4x4096x2048 (shapeCast S16384x2048 (truncf .bf16
      (concatenate S4x4096x8x256 3 [⟨S4x4096x8x192, (Host.divf (m ((c : Thread nD τ).loc main_arg0))
        (broadcastInDim S4x4096x8x192 ![] bcast_S_S4x4096x8x192 (mulf (Host.sqrt (constant S_ .f32 0x43400000#32))
          (Host.log (constant S_ .f32 0x40000000#32)))) : FVec Ideal S4x4096x8x192 .f32)⟩,
        ⟨S4x4096x8x64, (broadcastInDim S4x4096x8x64 ![] bcast_S_S4x4096x8x64 (constant S_ .f32 0x00000000#32) : FVec Ideal S4x4096x8x64 .f32)⟩]
        concatenates_S4x4096x8x192_S4x4096x8x64_S4x4096x8x256_d3 : FVec Ideal S4x4096x8x256 .f32) bitsLt_bf16_f32 : FVec Ideal S4x4096x8x256 .bf16)
      shapeCasts_S4x4096x8x256_S16384x2048) shapeCasts_S16384x2048_S4x4096x2048 : FVec Ideal S4x4096x2048 .bf16) := by
    dsimp only [V, hostOps0]
    after_results
    rfl
  rw [e, packed]
  simp only [pointwise, scale_eq]

/-- The keys the kernel is given: padded with zeros, packed. -/
theorem V_k (c : Dev nD) (b : Fin 4) (s : Fin 4096) (h : Fin 8) (d : Fin 256) :
    V m c main_v17 (ix3 b s (packCol h d))
      = if hd : d.val < 192 then (m ((c : Thread nD τ).loc main_arg1) (ix4 b s h (⟨d.val, hd⟩ : Fin 192)) : EReal) else (0 : EReal) := by
  have e : V m c main_v17 = (shapeCast S4x4096x2048 (shapeCast S16384x2048 (truncf .bf16
      (concatenate S4x4096x8x256 3 [⟨S4x4096x8x192, (m ((c : Thread nD τ).loc main_arg1) : FVec Ideal S4x4096x8x192 .f32)⟩,
        ⟨S4x4096x8x64, (broadcastInDim S4x4096x8x64 ![] bcast_S_S4x4096x8x64 (constant S_ .f32 0x00000000#32) : FVec Ideal S4x4096x8x64 .f32)⟩]
        concatenates_S4x4096x8x192_S4x4096x8x64_S4x4096x8x256_d3 : FVec Ideal S4x4096x8x256 .f32) bitsLt_bf16_f32 : FVec Ideal S4x4096x8x256 .bf16)
      shapeCasts_S4x4096x8x256_S16384x2048) shapeCasts_S16384x2048_S4x4096x2048 : FVec Ideal S4x4096x2048 .bf16) := by
    dsimp only [V, hostOps0]
    after_results
    rfl
  rw [e, packed]
  simp only [pointwise]

/-- The values the kernel is given: each head's 128 lanes followed by 128 ones, packed. -/
theorem V_v (c : Dev nD) (b : Fin 4) (s : Fin 4096) (h : Fin 8) (d : Fin 256) :
    V m c main_v18 (ix3 b s (packCol h d))
      = if hd : d.val < 128 then (m ((c : Thread nD τ).loc main_arg2) (ix4 b s h (⟨d.val, hd⟩ : Fin 128)) : EReal) else (1 : EReal) := by
  have e : V m c main_v18 = (shapeCast S4x4096x2048 (shapeCast S16384x2048 (truncf .bf16
      (concatenate S4x4096x8x256 3 [⟨S4x4096x8x128, (m ((c : Thread nD τ).loc main_arg2) : FVec Ideal S4x4096x8x128 .f32)⟩,
        ⟨S4x4096x8x128, (broadcastInDim S4x4096x8x128 ![] bcast_S_S4x4096x8x128 (constant S_ .f32 0x3F800000#32) : FVec Ideal S4x4096x8x128 .f32)⟩]
        concatenates_S4x4096x8x128_S4x4096x8x128_S4x4096x8x256_d3 : FVec Ideal S4x4096x8x256 .f32) bitsLt_bf16_f32 : FVec Ideal S4x4096x8x256 .bf16)
      shapeCasts_S4x4096x8x256_S16384x2048) shapeCasts_S16384x2048_S4x4096x2048 : FVec Ideal S4x4096x2048 .bf16) := by
    dsimp only [V, hostOps0]
    after_results
    rfl
  rw [e, packed]
  simp only [pointwise, bits_one]

end Cert.KernelIdeal.RefValue
-- ==== Proof.AttnArray.lean ====
module

public import proofs.«01_k».proof.Proof.AttnBlock
public import proofs.«01_k».proof.Proof.AttnHost

@[expose] public section

set_option maxRecDepth 16384

noncomputable section

open Idealize.ShloMosaic Idealize.ShloMosaic.TcCoe Idealize.SL.Sem
open Idealize.ShloMosaic.Pipeline (Dat)
open Cert.Softmax

namespace Cert.KernelIdeal.RefValue

open Cert.KernelIdeal Cert.KernelIdeal.Gen

/-- The scaled logit of query `s` and key `κ` of head `h` in batch `b`, as a real number. -/
def logitR (q k : S4x4096x8x192.Idx → EReal) (b : Fin 4) (h : Fin 8) (s κ : Fin 4096) : ℝ :=
  (∑ d : Fin 192, (q (ix4 b s h d)).toReal * (k (ix4 b κ h d)).toReal) / Real.sqrt 192

/-- The attention's result at batch `b`, place `s`, head `h` and lane `d`: the values' average by the softmax of the logits. -/
def attnAt (q k : S4x4096x8x192.Idx → EReal) (v : S4x4096x8x128.Idx → EReal) (b : Fin 4) (s : Fin 4096) (h : Fin 8)
    (d : Fin 128) : EReal :=
  ∑ κ : Fin 4096, v (ix4 b κ h d) * (weight (n := 4095) (fun κ => logitR q k b h s κ) κ : EReal)

/-- The attention, heads side by side. -/
def attn (q k : S4x4096x8x192.Idx → EReal) (v : S4x4096x8x128.Idx → EReal) : S4x4096x1024.Idx → EReal :=
  fun i => attnAt q k v (i 0) (i 1) ⟨(i 2).val / 128, by have h : (i 2).val < 1024 := (i 2).isLt; omega⟩
    ⟨(i 2).val % 128, by omega⟩

/-- A sum over 256 lanes of products that are zero from lane 192 on. -/
theorem sum_padded (f g : Fin 192 → EReal) :
    ∑ d : Fin 256, (if hd : d.val < 192 then f ⟨d.val, hd⟩ else 0) * (if hd : d.val < 192 then g ⟨d.val, hd⟩ else 0)
      = ∑ d : Fin 192, f d * g d := by
  refine (Fin.sum_univ_add (a := 192) (b := 64) (fun d : Fin (192 + 64) =>
    (if hd : d.val < 192 then f ⟨d.val, hd⟩ else 0) * (if hd : d.val < 192 then g ⟨d.val, hd⟩ else 0))).trans ?_
  have h0 : (∑ i : Fin 64, (fun d : Fin (192 + 64) =>
      (if hd : d.val < 192 then f ⟨d.val, hd⟩ else 0) * (if hd : d.val < 192 then g ⟨d.val, hd⟩ else 0)) (Fin.natAdd 192 i)) = 0 := by
    refine Finset.sum_eq_zero fun i _ => ?_
    have hn : ¬ (Fin.natAdd 192 i : Fin (192 + 64)).val < 192 := by simp
    simp only [dif_neg hn, mul_zero]
  rw [h0, add_zero]
  refine Finset.sum_congr rfl fun d _ => ?_
  have hl : (Fin.castAdd 64 d : Fin (192 + 64)).val < 192 := d.isLt
  simp only [dif_pos hl]
  rfl

theorem coe_toReal {x : EReal} (h : IsReal x) : x = (x.toReal : EReal) := by
  obtain ⟨r, rfl⟩ := h; rfl

/-- The kernel's logit is the scaled logit divided by the logarithm of 2. -/
theorem logit_eq (q k : S4x4096x8x192.Idx → EReal) (hq : ∀ i, IsReal (q i)) (hk : ∀ i, IsReal (k i)) (b : Fin 4) (h : Fin 8)
    (s κ : Fin 4096) :
    ∑ d : Fin 192, Ideal.div (q (ix4 b s h d)) (qScale : EReal) * k (ix4 b κ h d)
      = ((logitR q k b h s κ / Real.log 2 : ℝ) : EReal) := by
  have e (d : Fin 192) : Ideal.div (q (ix4 b s h d)) (qScale : EReal) * k (ix4 b κ h d)
      = (((q (ix4 b s h d)).toReal * (k (ix4 b κ h d)).toReal * qScale⁻¹ : ℝ) : EReal) := by
    rw [div_coe _ _ qScale_pos.ne']
    conv_lhs => rw [coe_toReal (hq (ix4 b s h d)), coe_toReal (hk (ix4 b κ h d))]
    rw [← EReal.coe_mul, ← EReal.coe_mul]
    congr 1
    ring
  simp only [e]
  rw [coe_sum, ← Finset.sum_mul]
  unfold logitR qScale
  congr 1
  rw [mul_inv, div_div, div_eq_mul_inv, mul_inv]

variable (m : (ℓ : Loc nD τ sig) → Buf (Elt Ideal) ℓ) (ρ : Dev nD → PrngReg)

theorem idx0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem idx3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

/-- A block of queries reads its array at the places the block holds. -/
theorem read0 (c : Dev nD) (t : Fin cfg0.N) (X : (b : Ref sig .tc) → Buf (Elt Ideal) ((c : Thread nD τ).loc b)) (j : S1x1024x256.Idx) :
    View.read (Elt Ideal) ((cfg0.win 0).blk t).view (X (Pipeline.arrRef spec0 0)) j = X main_v16 ((win0_0.blk t).view.emb j) := rfl

theorem emb0 (t : Fin cfg0.N) (j : S1x1024x256.Idx) (i : S4x4096x2048.Idx)
    (h0 : (i 0).val = (grid0.coords t 0).val) (h1 : (i 1).val = (grid0.coords t 2).val * 1024 + (j 1).val)
    (h2 : (i 2).val = (grid0.coords t 1).val * 256 + (j 2).val) : (win0_0.blk t).view.emb j = i := by
  have hj : (j 0).val < 1 := (j 0).isLt
  blk_ext [idx0]

/-- The block of queries at a step. -/
theorem blk0 (c : Dev nD) (t : Fin cfg0.N) (j : S1x1024x256.Idx) (b : Fin 4) (s : Fin 4096) (h : Fin 8) (d : Fin 256)
    (h0 : b.val = (grid0.coords t 0).val) (h1 : s.val = (grid0.coords t 2).val * 1024 + (j 1).val)
    (h2 : h.val = (grid0.coords t 1).val) (h3 : d.val = (j 2).val) :
    iblk m c 0 t j = if hd : d.val < 192 then Ideal.div (m ((c : Thread nD τ).loc main_arg0) (ix4 b s h (⟨d.val, hd⟩ : Fin 192))) qScale else 0 := by
  rw [← V_q m c b s h d]
  unfold iblk
  generalize V m c = X
  rw [read0, emb0 t j (ix3 b s (packCol h d)) h0 h1
    (show 256 * h.val + d.val = _ by rw [h2, h3, Nat.mul_comm])]

/-- A block of keys reads its array at the places the block holds. -/
theorem read1 (c : Dev nD) (t : Fin cfg0.N) (X : (b : Ref sig .tc) → Buf (Elt Ideal) ((c : Thread nD τ).loc b)) (j : S1x4096x256.Idx) :
    View.read (Elt Ideal) ((cfg0.win 1).blk t).view (X (Pipeline.arrRef spec0 1)) j = X main_v17 ((win0_1.blk t).view.emb j) := rfl

theorem emb1 (t : Fin cfg0.N) (j : S1x4096x256.Idx) (i : S4x4096x2048.Idx)
    (h0 : (i 0).val = (grid0.coords t 0).val) (h1 : (i 1).val = (j 1).val)
    (h2 : (i 2).val = (grid0.coords t 1).val * 256 + (j 2).val) : (win0_1.blk t).view.emb j = i := by
  have hj : (j 0).val < 1 := (j 0).isLt
  blk_ext [idx1]

/-- The block of keys at a step. -/
theorem blk1 (c : Dev nD) (t : Fin cfg0.N) (j : S1x4096x256.Idx) (b : Fin 4) (s : Fin 4096) (h : Fin 8) (d : Fin 256)
    (h0 : b.val = (grid0.coords t 0).val) (h1 : s.val = (j 1).val)
    (h2 : h.val = (grid0.coords t 1).val) (h3 : d.val = (j 2).val) :
    iblk m c 1 t j = if hd : d.val < 192 then (m ((c : Thread nD τ).loc main_arg1) (ix4 b s h (⟨d.val, hd⟩ : Fin 192)) : EReal) else (0 : EReal) := by
  rw [← V_k m c b s h d]
  unfold iblk
  generalize V m c = X
  rw [read1, emb1 t j (ix3 b s (packCol h d)) h0 h1
    (show 256 * h.val + d.val = _ by rw [h2, h3, Nat.mul_comm])]

/-- A block of values reads its array at the places the block holds. -/
theorem read2 (c : Dev nD) (t : Fin cfg0.N) (X : (b : Ref sig .tc) → Buf (Elt Ideal) ((c : Thread nD τ).loc b)) (j : S1x4096x256.Idx) :
    View.read (Elt Ideal) ((cfg0.win 2).blk t).view (X (Pipeline.arrRef spec0 2)) j = X main_v18 ((win0_2.blk t).view.emb j) := rfl

theorem emb2 (t : Fin cfg0.N) (j : S1x4096x256.Idx) (i : S4x4096x2048.Idx)
    (h0 : (i 0).val = (grid0.coords t 0).val) (h1 : (i 1).val = (j 1).val)
    (h2 : (i 2).val = (grid0.coords t 1).val * 256 + (j 2).val) : (win0_2.blk t).view.emb j = i := by
  have hj : (j 0).val < 1 := (j 0).isLt
  blk_ext [idx2]

/-- The block of values at a step. -/
theorem blk2 (c : Dev nD) (t : Fin cfg0.N) (j : S1x4096x256.Idx) (b : Fin 4) (s : Fin 4096) (h : Fin 8) (d : Fin 256)
    (h0 : b.val = (grid0.coords t 0).val) (h1 : s.val = (j 1).val)
    (h2 : h.val = (grid0.coords t 1).val) (h3 : d.val = (j 2).val) :
    iblk m c 2 t j = if hd : d.val < 128 then (m ((c : Thread nD τ).loc main_arg2) (ix4 b s h (⟨d.val, hd⟩ : Fin 128)) : EReal) else (1 : EReal) := by
  rw [← V_v m c b s h d]
  unfold iblk
  generalize V m c = X
  rw [read2, emb2 t j (ix3 b s (packCol h d)) h0 h1
    (show 256 * h.val + d.val = _ by rw [h2, h3, Nat.mul_comm])]

/-- One part of a block, at the place it is written to. -/
theorem slab_at (c : Dev nD) (t : Fin cfg0.N) (o : Nat)
    (inb : ∀ a, (![0, o, 0] : Fin 3 → Nat) a + S1x256x256.size a ≤ S1x1024x256.size a) (r : Fin 256) (cc : Fin 128)
    (b : Fin 4) (s : Fin 4096) (h : Fin 8)
    (hq : ∀ i, IsReal (m ((c : Thread nD τ).loc main_arg0) i)) (hk : ∀ i, IsReal (m ((c : Thread nD τ).loc main_arg1) i))
    (h0 : b.val = (grid0.coords t 0).val) (h1 : s.val = (grid0.coords t 2).val * 1024 + (o + r.val))
    (h2 : h.val = (grid0.coords t 1).val) :
    slab (View.ld (iblk m c 0 t : Vec Ideal S1x1024x256 .bf16) (Rect.unit (s := S1x1024x256) ![0, o, 0] S1x256x256.size inb))
        (iblk m c 1 t) (iblk m c 2 t) (ix3 0 r cc)
      = attnAt (m ((c : Thread nD τ).loc main_arg0)) (m ((c : Thread nD τ).loc main_arg1)) (m ((c : Thread nD τ).loc main_arg2)) b s h cc := by
  have eq (d : Fin 256) : View.ld (iblk m c 0 t : Vec Ideal S1x1024x256 .bf16) (Rect.unit (s := S1x1024x256) ![0, o, 0] S1x256x256.size inb) (ix3 0 r d)
      = if hd : d.val < 192 then Ideal.div (m ((c : Thread nD τ).loc main_arg0) (ix4 b s h (⟨d.val, hd⟩ : Fin 192))) qScale else 0 := by
    refine blk0 m c t _ b s h d h0 ?_ h2 ?_
    · rw [Rect.idx_unit_val]; exact h1
    · rw [Rect.idx_unit_val]; exact (Nat.zero_add _).symm
  have ek (κ : Fin 4096) (d : Fin 256) : (iblk m c 1 t : Vec Ideal S1x4096x256 .bf16) (ix3 0 κ d)
      = if hd : d.val < 192 then (m ((c : Thread nD τ).loc main_arg1) (ix4 b κ h (⟨d.val, hd⟩ : Fin 192)) : EReal) else (0 : EReal) :=
    blk1 m c t _ b κ h d h0 rfl h2 rfl
  have el (κ : Fin 4096) : logit (View.ld (iblk m c 0 t : Vec Ideal S1x1024x256 .bf16) (Rect.unit (s := S1x1024x256) ![0, o, 0] S1x256x256.size inb))
      (iblk m c 1 t) r κ = ((logitR (m ((c : Thread nD τ).loc main_arg0)) (m ((c : Thread nD τ).loc main_arg1)) b h s κ / Real.log 2 : ℝ) : EReal) := by
    unfold logit
    simp only [eq, ek]
    rw [← logit_eq _ _ hq hk b h s κ]
    exact sum_padded (fun d => Ideal.div (m ((c : Thread nD τ).loc main_arg0) (ix4 b s h d)) (qScale : EReal))
      (fun d => m ((c : Thread nD τ).loc main_arg1) (ix4 b κ h d))
  obtain ⟨μ, hμ⟩ : IsReal (top (View.ld (iblk m c 0 t : Vec Ideal S1x1024x256 .bf16) (Rect.unit (s := S1x1024x256) ![0, o, 0] S1x256x256.size inb))
      (iblk m c 1 t) (ix2 r 0)) := by
    refine isReal_top _ _ r (fun d => ?_) (fun i => ?_)
    · rw [eq]
      split
      · rw [div_coe _ _ qScale_pos.ne']; exact (hq _).mul (IsReal.coe _)
      · exact ⟨0, rfl⟩
    · have hi : i = ix3 0 (i 1) (i 2) := by
        funext a
        match a with
        | ⟨0, _⟩ => exact Subsingleton.elim (α := Fin 1) _ _
        | ⟨1, _⟩ => rfl
        | ⟨2, _⟩ => rfl
      have key (κ : Fin 4096) (d : Fin 256) : IsReal ((iblk m c 1 t : Vec Ideal S1x4096x256 .bf16) (ix3 0 κ d)) := by
        rw [ek]
        split
        · exact hk _
        · exact ⟨0, rfl⟩
      rw [hi]
      exact key (i 1) (i 2)
  rw [slab_apply, hμ]
  simp only [el]
  have hc := cc.isLt
  have hn : ¬ (128 + cc.val) < 128 := by omega
  have ev (κ : Fin 4096) : (iblk m c 2 t : Vec Ideal S1x4096x256 .bf16) (ix3 0 κ (⟨cc.val, by omega⟩ : Fin 256))
      = (m ((c : Thread nD τ).loc main_arg2) (ix4 b κ h cc) : EReal) :=
    (blk2 m c t _ b κ h ⟨cc.val, by omega⟩ h0 rfl h2 rfl).trans (dif_pos hc)
  have e1 (κ : Fin 4096) : (iblk m c 2 t : Vec Ideal S1x4096x256 .bf16) (ix3 0 κ (⟨128 + cc.val, by omega⟩ : Fin 256)) = (1 : EReal) :=
    (blk2 m c t _ b κ h ⟨128 + cc.val, by omega⟩ h0 rfl h2 rfl).trans (dif_neg hn)
  simp only [ev, e1]
  exact base_two (n := 4095) (fun κ => logitR (m ((c : Thread nD τ).loc main_arg0)) (m ((c : Thread nD τ).loc main_arg1)) b h s κ)
    (fun κ => m ((c : Thread nD τ).loc main_arg2) (ix4 b κ h cc)) μ

/-- What the kernel's run leaves in its output array, from real queries and keys. -/
theorem final (c : Dev nD)
    (hq : ∀ i, IsReal (m ((c : Thread nD τ).loc main_arg0) i)) (hk : ∀ i, IsReal (m ((c : Thread nD τ).loc main_arg1) i)) :
    (dats m 0 c).arrAt 3 cfg0.N
    = attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  canon_tiles y h
  all_goals
    have e0 (x : S1x256x128.Idx) : x = ix3 0 (x 1) (x 2) := by
      funext a
      match a with
      | ⟨0, _⟩ => exact Subsingleton.elim (α := Fin 1) _ _
      | ⟨1, _⟩ => rfl
      | ⟨2, _⟩ => rfl
    refine (congrArg _ (e0 y)).trans ((slab_at m c t _ _ (y 1) (y 2) ((win0_3.blk t).view.emb _ 0) ((win0_3.blk t).view.emb _ 1)
      ⟨((win0_3.blk t).view.emb _ 2).val / 128, ?_⟩ hq hk ?_ ?_ ?_).trans
      (congrArg (attnAt _ _ _ _ _ _) (Fin.ext ?_)))
    all_goals have hg : (grid0.coords t 1).val < 8 := (grid0.coords t 1).isLt
    all_goals have hy : (y 2).val < 128 := (y 2).isLt
    all_goals blk_simp [idx3, Rect.idx_unit_val]
    all_goals try simp only [Fin.val_mk]
    all_goals omega

end Cert.KernelIdeal.RefValue
-- ==== Proof.Attn.lean ====
module

public import proofs.«01_k».proof.Proof.AttnArray
public import proofs.«01_k».proof.Proof.Gen.ReferenceIdeal.Read
public import proofs.«01_k».proof.Proof.Gen.Pre_finite_qk
public import Idealize.ShloMosaic.Lib.ReduceAll

@[expose] public section

set_option maxRecDepth 16384

noncomputable section

open Idealize.ShloMosaic Idealize.ShloMosaic.TcCoe Idealize.SL.Sem
open Cert.Softmax

namespace Cert.KernelIdeal.RefValue

open Cert.KernelIdeal Cert.KernelIdeal.Gen

variable (m : (ℓ : Loc nD τ sig) → Buf (Elt Ideal) ℓ) (ρ : Dev nD → PrngReg)

/-- The kernel's run: its result is the attention of the arguments, which it leaves unchanged. -/
theorem run (hq : ∀ (c : Dev nD) i, IsReal (m ((c : Thread nD τ).loc main_arg0) i))
    (hk : ∀ (c : Dev nD) i, IsReal (m ((c : Thread nD τ).loc main_arg1) i)) :
    θ_run defs (onTc (τ := τ) (main (F := Ideal))) ⟨m, fun _ => 0, ρ⟩ fun r => ∀ c : Dev nD,
      r.2.mem ((c : Thread nD τ).loc main_v19)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (hq c) (hk c)), (h c).2⟩) (Value.run_blocks m ρ)

end Cert.KernelIdeal.RefValue

namespace Cert.ReferenceIdeal.RefValue

open Cert.ReferenceIdeal Cert.ReferenceIdeal.Read
open Cert.KernelIdeal.RefValue (logitR attn attnAt coe_toReal bits_192)

variable (q k : S4x4096x8x192.Idx → EReal) (v : S4x4096x8x128.Idx → EReal)

/-- The reference's scaled logits are real numbers where the queries and the keys are. -/
theorem logit_eq (hq : ∀ i, IsReal (q i)) (hk : ∀ i, IsReal (k i)) (i : S4x8x4096x4096.Idx) :
    val_main_v3 (F := Ideal) q k i = (logitR q k (i 0) (i 1) (i 2) (i 3) : EReal) := by
  have hs : Real.sqrt 192 ≠ 0 := (Real.sqrt_pos.2 (by norm_num)).ne'
  have e : val_main_v2 (F := Ideal) i = ((Real.sqrt 192 : ℝ) : EReal) := by
    rw [val_main_v2_apply, val_main_v1_apply, val_main_cst_apply]
    show Ideal.sqrt (Ideal.ofBits .f32 0x43400000#32) = _
    rw [bits_192, Ideal.sqrt_coe, if_neg (by norm_num)]
  have h0 : val_main_v0 (F := Ideal) q k i
      = ((∑ d : Fin 192, (q (ix4 (i 0) (i 2) (i 1) d)).toReal * (k (ix4 (i 0) (i 3) (i 1) d)).toReal : ℝ) : EReal) := by
    rw [val_main_v0_apply, ← coe_sum]
    refine Finset.sum_congr rfl fun d _ => ?_
    rw [EReal.coe_mul, ← coe_toReal (hq _), ← coe_toReal (hk _)]
    refine congrArg₂ (· * ·) (congrArg q ?_) (congrArg k ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl
  rw [val_main_v3_apply, e, h0]
  refine (div_coe _ _ hs).trans ?_
  rw [← EReal.coe_mul]
  rfl

/-- The reference's shift is a real number. -/
theorem isReal_max (hq : ∀ i, IsReal (q i)) (hk : ∀ i, IsReal (k i)) (i : S4x8x4096.Idx) :
    IsReal (val_main_v6 (F := Ideal) q k i) := by
  have hv (j : S4x8x4096x4096.Idx) : IsReal (val_main_v3 (F := Ideal) q k j) := ⟨_, logit_eq q k hq hk j⟩
  have h4 : IsReal (val_main_v4 (F := Ideal) q k i) := by
    unfold val_main_v4 val_main_cst_0
    generalize val_main_v3 (F := Ideal) q k = y at hv
    simp only [pointwise]
    exact isReal_fold_univ (n := 4095) _ fun l => hv _
  have h5 : val_main_v5 (F := Ideal) i = ⊥ := by
    rw [val_main_v5_apply, val_main_cst_1_apply]
    show Ideal.ofBits .f32 0xFF800000#32 = ⊥
    simp [Ideal.ofBits, Ideal.ieee, -EReal.coe_mul]
  rw [val_main_v6_apply, h5]
  show IsReal (max ⊥ _)
  rw [max_eq_right bot_le]
  exact h4

/-- The reference's softmax weights applied to the values are the attention. -/
theorem at_eq (hq : ∀ i, IsReal (q i)) (hk : ∀ i, IsReal (k i)) (b : Fin 4) (s : Fin 4096) (h : Fin 8) (d : Fin 128) :
    val_main_v15 (F := Ideal) q k v (ix4 b h d s) = attnAt q k v b s h d := by
  obtain ⟨ν, hν⟩ := isReal_max q k hq hk (ix3 b h s)
  have h10 (κ : Fin 4096) : val_main_v10 (F := Ideal) q k (ix4 b h s κ)
      = Ideal.exp ((logitR q k b h s κ : EReal) - (ν : EReal)) := by
    have hi : idx_main_v7 (idx_main_v8 (ix4 b h s κ)) = ix3 b h s := by
      funext a; match a with | ⟨0, _⟩ => rfl | ⟨1, _⟩ => rfl | ⟨2, _⟩ => rfl
    rw [val_main_v10_apply, val_main_v9_apply, logit_eq q k hq hk, val_main_v8_apply, val_main_v7_apply, hi, hν]
    rfl
  have h13 (κ : Fin 4096) : val_main_v13 (F := Ideal) q k (ix4 b h s κ)
      = 0 + ∑ l : Fin 4096, Ideal.exp ((logitR q k b h s l : EReal) - (ν : EReal)) := by
    rw [val_main_v13_apply, val_main_v12_apply, val_main_v11_apply, val_main_cst_2_apply]
    refine congrArg₂ (· + ·) (by simp only [pointwise]) (Finset.sum_congr rfl fun l _ => ?_)
    rw [← h10 l]
    refine congrArg (val_main_v10 (F := Ideal) q k) ?_
    funext a; match a with | ⟨0, _⟩ => rfl | ⟨1, _⟩ => rfl | ⟨2, _⟩ => rfl | ⟨3, _⟩ => rfl
  rw [val_main_v15_apply]
  refine Eq.trans (Finset.sum_congr rfl fun κ _ => ?_) (base_e (n := 4095) (fun κ => logitR q k b h s κ) (fun κ => v (ix4 b κ h d)) ν)
  refine congrArg₂ (· * ·) (congrArg v ?_) ?_
  · funext a; match a with | ⟨0, _⟩ => rfl | ⟨1, _⟩ => rfl | ⟨2, _⟩ => rfl | ⟨3, _⟩ => rfl
  · have hi : ridx_main_v15 (ix4 b h d s) κ = ix4 b h s κ := by
      funext a; match a with | ⟨0, _⟩ => rfl | ⟨1, _⟩ => rfl | ⟨2, _⟩ => rfl | ⟨3, _⟩ => rfl
    rw [hi, val_main_v14_apply, h10, h13]
    rfl

/-- The reference's value is the attention. -/
theorem val_eq (hq : ∀ i, IsReal (q i)) (hk : ∀ i, IsReal (k i)) : val_main_v18 (F := Ideal) q k v = attn q k v := by
  funext i
  have h0 : (i 0).val < 4 := (i 0).isLt
  have h1 : (i 1).val < 4096 := (i 1).isLt
  have h2 : (i 2).val < 1024 := (i 2).isLt
  rw [val_main_v18_apply, val_main_v17_apply, val_main_v16_apply]
  refine Eq.trans ?_ (at_eq q k v hq hk (i 0) (i 1) ⟨(i 2).val / 128, by omega⟩ ⟨(i 2).val % 128, by omega⟩)
  refine congrArg (val_main_v15 (F := Ideal) q k v) ?_
  funext a
  match a with
  | ⟨0, _⟩ => exact Fin.ext (show (((i 0).val * 4096 + (i 1).val) * 1024 + (i 2).val) / 4194304 = (i 0).val by omega)
  | ⟨1, _⟩ => exact Fin.ext (show (((i 0).val * 4096 + (i 1).val) * 1024 + (i 2).val) / 128 % 8 = (i 2).val / 128 by omega)
  | ⟨2, _⟩ => exact Fin.ext (show (((i 0).val * 4096 + (i 1).val) * 1024 + (i 2).val) % 128 = (i 2).val % 128 by omega)
  | ⟨3, _⟩ => exact Fin.ext (show (((i 0).val * 4096 + (i 1).val) * 1024 + (i 2).val) / 1024 % 4096 = (i 1).val by omega)

end Cert.ReferenceIdeal.RefValue

namespace Cert.Attn

/-- An extended real whose absolute value is below infinity is a real number. -/
theorem isReal_of_abs_lt (x : EReal)
    (h : FloatOps.cmpf (F := Ideal) (φ := .f32) .olt (FloatOps.hostAbsf (F := Ideal) (φ := .f32) x) (FloatOps.ofBits .f32 0x7F800000#32) = 1#1) : IsReal x := by
  have h' : BitVec.ofBool (decide (max x (-x) < Ideal.ofBits .f32 0x7F800000#32)) = 1#1 := h
  have ht : Ideal.ofBits .f32 0x7F800000#32 = ⊤ := by
    simp [Ideal.ofBits, Ideal.ieee, -EReal.coe_mul]
  rw [ht] at h'
  have hlt : max x (-x) < ⊤ := by
    by_contra hc
    rw [decide_eq_false hc] at h'
    exact absurd h' (by decide)
  induction x with
  | bot => simp at hlt
  | top => simp at hlt
  | coe r => exact ⟨r, rfl⟩

/-- The precondition says the queries and the keys are real numbers. -/
theorem pre_open (a0 a1 : FVec Ideal Cert.Pre_finite_qk.S4x4096x8x192 .f32) (a2 : FVec Ideal Cert.Pre_finite_qk.S4x4096x8x128 .f32)
    (h : Cert.Pre_finite_qk.fn (F := Ideal) a0 a1 a2 = fun _ => 1#1) : (∀ i, IsReal (a0 i)) ∧ (∀ i, IsReal (a1 i)) := by
  have hj := congrFun h (fun a => a.elim0)
  unfold Cert.Pre_finite_qk.fn at hj
  obtain ⟨h0, h1⟩ := IntOp.andi_eq_one.1 hj
  haveI : Subsingleton Cert.Pre_finite_qk.S_.Idx := ⟨fun a b => funext fun i => i.elim0⟩
  exact ⟨fun i => isReal_of_abs_lt _ (Host.reduce_andi_all _ _ _ _ _ h0 i), fun i => isReal_of_abs_lt _ (Host.reduce_andi_all _ _ _ _ _ h1 i)⟩

/-- The dense attention's kernel and its reference compute one function of real queries and keys and any values. -/
theorem algebraic : Cert.algebraic_KernelIdeal_ReferenceIdeal_pre_finite_qk := fun m g m' g' hpre hag =>
  ⟨fun c => Cert.KernelIdeal.RefValue.attn _ _ _,
    Cert.KernelIdeal.RefValue.run m g (fun c => (pre_open _ _ _ (hpre c)).1) (fun c => (pre_open _ _ _ (hpre c)).2),
    (θ_run _ _ _).mono (fun _ h c => ⟨(h c).1.trans ((Cert.ReferenceIdeal.RefValue.val_eq _ _ _
      (by rw [(hag c).1]; exact (pre_open _ _ _ (hpre c)).1) (by rw [(hag c).2.1]; exact (pre_open _ _ _ (hpre c)).2)).trans (by
      rw [(hag c).1, (hag c).2.1, (hag c).2.2])), (h c).2⟩)
      (Cert.ReferenceIdeal.Value.run m' g')⟩

end Cert.Attn

end
-- ==== Proof.Sigmoid.lean ====
module

public import Idealize.ShloMosaic.Lib.Pointwise

@[expose] public section

noncomputable section

open Idealize.ShloMosaic

namespace Cert.Sigmoid

/-- The word the kernels print for one half denotes one half. -/
theorem half_bits : Ideal.ofBits .f32 0x3F000000#32 = ((1 / 2 : ℝ) : EReal) := by
  simp [Ideal.ofBits, Ideal.ieee, -EReal.coe_mul]; norm_num

/-- A real's sigmoid by its hyperbolic tangent. -/
theorem real_eq (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  have hp := Real.exp_pos (1 / 2 * r)
  have hn := Real.exp_pos (-(1 / 2 * r))
  rw [h1, Real.tanh_eq]
  generalize Real.exp (1 / 2 * r) = a at *
  generalize Real.exp (-(1 / 2 * r)) = b at *
  have h3 : a + b ≠ 0 := by positivity
  have h4 : 1 + b * b ≠ 0 := by positivity
  field_simp
  linear_combination 2 * b * h2

/-- The half-angle form of the sigmoid is the sigmoid, at the infinities too. -/
theorem eq_logistic (x : EReal) :
    ((1 / 2 : ℝ) : EReal) * Ideal.tanh (((1 / 2 : ℝ) : EReal) * x) + ((1 / 2 : ℝ) : EReal) = Ideal.logistic x := by
  have hh : (0 : ℝ) < 1 / 2 := by norm_num
  induction x using EReal.rec with
  | bot =>
    rw [EReal.coe_mul_bot_of_pos hh, Ideal.tanh_bot, Ideal.logistic_bot, ← EReal.coe_one, ← EReal.coe_neg, ← EReal.coe_mul, ← EReal.coe_add, ← EReal.coe_zero]
    norm_num
  | coe r =>
    rw [← EReal.coe_mul, Ideal.tanh_coe, Ideal.logistic_coe, ← EReal.coe_mul, ← EReal.coe_add, real_eq]
  | top =>
    rw [EReal.coe_mul_top_of_pos hh, Ideal.tanh_top, Ideal.logistic_top, ← EReal.coe_one, ← EReal.coe_mul, ← EReal.coe_add]
    norm_num

end Cert.Sigmoid
-- ==== Proof.Swiglu2.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit.Tiles
public import Idealize.ShloMosaic.Lib.Pipeline.ValueKit.Geometry
public import Idealize.ShloMosaic.Lib.Pointwise
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.Kernel2Ideal.RefValue

open Cert.Kernel2Ideal Cert.Kernel2Ideal.Gen

/-- A column of the gated half among the columns of the weights. -/
def gateCol (j : Fin 11008) : Fin 22016 := ⟨j.val, by omega⟩

/-- A column of the linear half among the columns of the weights. -/
def upCol (j : Fin 11008) : Fin 22016 := ⟨11008 + j.val, by omega⟩

/-- Equal factors give equal gated products. -/
theorem swiglu_congr {a a' b b' : EReal} (h : a = a') (k : b = b') :
    a * Ideal.logistic a * b = a' * Ideal.logistic a' * b' := by rw [h, k]

/-- The gated product: with `g` and `u` the products with the two halves of the weights, `g · logistic g · u`. -/
def swiglu (h : S16384x4096.Idx → EReal) (w : S4096x22016.Idx → EReal) : S16384x11008.Idx → EReal :=
  fun i => (∑ k : Fin 4096, h (ix2 (i 0) k) * w (ix2 k (gateCol (i 1))))
      * Ideal.logistic (∑ k : Fin 4096, h (ix2 (i 0) k) * w (ix2 k (gateCol (i 1))))
      * (∑ k : Fin 4096, h (ix2 (i 0) k) * w (ix2 k (upCol (i 1))))

/-- One slab's payload at an element. -/
theorem slab_apply (v0 : Vec Ideal S1024x4096 .bf16) (v1 v4 : Vec Ideal S4096x256 .bf16) (x : S1024x256.Idx) :
    k0_pay2 v0 v1 v4 x = (∑ k : Fin 4096, v0 (ix2 (x 0) k) * v1 (ix2 k (x 1)))
      * Ideal.logistic (∑ k : Fin 4096, v0 (ix2 (x 0) k) * v1 (ix2 k (x 1)))
      * (∑ k : Fin 4096, v0 (ix2 (x 0) k) * v4 (ix2 k (x 1))) := by
  unfold k0_pay2
  simp only [pointwise, zero_add, Sigmoid.half_bits]
  exact congrArg (_ * · * _) (Sigmoid.eq_logistic _)

variable (m : (ℓ : Loc nD τ sig) → Buf (Elt Ideal) ℓ) (ρ : Dev nD → PrngReg)

/-- The weights the kernel is given are the argument (the host only changes their format). -/
theorem V_w (c : Dev nD) (i : S4096x22016.Idx) :
    V m c main_v0 i = m ((c : Thread nD τ).loc main_arg1) i := by
  have h : V m c main_v0 = (truncf .bf16 (m ((c : Thread nD τ).loc main_arg1)) bitsLt_bf16_f32 : FVec Ideal S4096x22016 .bf16) := by
    dsimp only [V, hostOps0]
    after_results
  rw [h]; rfl

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![0, (grid0.coords t 1).val + 43] :=
  (by decide +kernel : ∀ t : Fin grid0.N, win0_2.index t = ![0, (grid0.coords t 1).val + 43])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

theorem blk0 (c : Dev nD) (t : Fin cfg0.N) (j : S2048x4096.Idx) (i : S16384x4096.Idx)
    (h0 : (i 0).val = (grid0.coords t 0).val * 2048 + (j 0).val) (h1 : (i 1).val = (j 1).val) :
    iblk m c 0 t j = m ((c : Thread nD τ).loc main_arg0) i := by
  blk_simp [iblk]
  show V m c main_arg0 _ = _
  rw [V_main_arg0]
  exact congrArg _ (by blk_ext [idx0])

theorem blk1 (c : Dev nD) (t : Fin cfg0.N) (j : S4096x256.Idx) (k : Fin 4096) (n : Fin 11008)
    (h0 : k.val = (j 0).val) (h1 : n.val = (grid0.coords t 1).val * 256 + (j 1).val) :
    iblk m c 1 t j = m ((c : Thread nD τ).loc main_arg1) (ix2 k (gateCol n) : S4096x22016.Idx) := by
  blk_simp [iblk]
  show V m c main_v0 _ = _
  rw [V_w]
  exact congrArg _ (by blk_ext [idx1, gateCol])

theorem blk2 (c : Dev nD) (t : Fin cfg0.N) (j : S4096x256.Idx) (k : Fin 4096) (n : Fin 11008)
    (h0 : k.val = (j 0).val) (h1 : n.val = (grid0.coords t 1).val * 256 + (j 1).val) :
    iblk m c 2 t j = m ((c : Thread nD τ).loc main_arg1) (ix2 k (upCol n) : S4096x22016.Idx) := by
  blk_simp [iblk]
  show V m c main_v0 _ = _
  rw [V_w]
  exact congrArg _ (by blk_ext [idx2, upCol])

/-- What the kernel's run leaves in its output array. -/
theorem final (c : Dev nD) : (dats m 0 c).arrAt 3 cfg0.N
    = swiglu (m ((c : Thread nD τ).loc main_arg0)) (m ((c : Thread nD τ).loc main_arg1)) := by
  refine (dats m 0 c).arrAt_eq_of_covers 3 _ (by decide +kernel) fun t hf y => ?_
  blk_simp
  rw [after0_3]
  canon_tiles y h
  all_goals
    refine (slab_apply _ _ _ _).trans ?_
    unfold swiglu
    refine swiglu_congr
      (Finset.sum_congr rfl fun k _ =>
        congrArg₂ (· * ·) (blk0 m c t _ _ ?_ ?_) (blk1 m c t _ _ _ ?_ ?_))
      (Finset.sum_congr rfl fun k _ =>
        congrArg₂ (· * ·) (blk0 m c t _ _ ?_ ?_) (blk2 m c t _ _ _ ?_ ?_))
  all_goals blk_simp [idx3, Rect.idx_unit_val]
  all_goals omega

/-- The kernel's run: its result is the gated product of the arguments, which it leaves unchanged. -/
theorem run : θ_run defs (onTc (τ := τ) (main (F := Ideal))) ⟨m, fun _ => 0, ρ⟩ fun r => ∀ c : Dev nD,
      r.2.mem ((c : Thread nD τ).loc main_v1)
        = swiglu (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.RefValue

namespace Cert.Reference2Ideal.RefValue

open Cert.Reference2Ideal Cert.Reference2Ideal.Read

/-- The reference's value is the same gated product. -/
theorem val_eq (x0 : (⟨S16384x4096, .bf16⟩ : BufTy).Contents (Elt Ideal)) (x1 : (⟨S4096x22016, .f32⟩ : BufTy).Contents (Elt Ideal)) :
    val_main_v6 (F := Ideal) x0 x1 = Cert.Kernel2Ideal.RefValue.swiglu x0 x1 := by
  funext i
  rw [val_main_v6_apply, val_main_v5_apply, val_main_v4_apply, val_main_call0_v5_apply, val_main_call0_v4_apply,
    val_main_call0_v3_apply, val_main_call0_v2_apply, val_main_call0_v1_apply, val_main_call0_v0_apply, val_main_v3_apply,
    val_main_v2_apply, val_main_call0_cst_apply, val_main_call0_cst_0_apply, val_main_v1_apply, val_main_v1_apply]
  simp only [pointwise]
  unfold Cert.Kernel2Ideal.RefValue.swiglu
  refine Cert.Kernel2Ideal.RefValue.swiglu_congr (Finset.sum_congr rfl fun k _ => ?_) (Finset.sum_congr rfl fun k _ => ?_)
  all_goals
    rw [val_main_v0_apply]
    refine congrArg₂ (· * ·) (congrArg x0 ?_) (congrArg x1 ?_)
    · funext a; match a with | ⟨0, _⟩ => rfl | ⟨1, _⟩ => rfl
    · funext a; match a with | ⟨0, _⟩ => rfl | ⟨1, _⟩ => rfl

end Cert.Reference2Ideal.RefValue

namespace Cert.Swiglu2

/-- The gated product's kernel and its reference compute one function of the arguments. -/
theorem algebraic : Cert.algebraic_Kernel2Ideal_Reference2Ideal := fun m g m' g' _ hag =>
  ⟨fun c => Cert.Kernel2Ideal.RefValue.swiglu _ _, Cert.Kernel2Ideal.RefValue.run m g,
    (θ_run _ _ _).mono (fun _ h c => ⟨(h c).1.trans ((Cert.Reference2Ideal.RefValue.val_eq _ _).trans (by
      rw [(hag c).1, (hag c).2])), (h c).2⟩) (Cert.Reference2Ideal.Value.run m' g')⟩

end Cert.Swiglu2

end
-- ==== Proof.Gates3.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit.Tiles
public import Idealize.ShloMosaic.Lib.Pipeline.ValueKit.Geometry
public import Idealize.ShloMosaic.Lib.Pointwise
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

/-- A gate's column among the columns of the input projection. -/
def gateCol (j : Fin 16384) : Fin 25664 := ⟨9280 + j.val, by omega⟩

/-- The gates: the sigmoid of the hidden states' product with the last columns of the input projection, element by element. -/
def gates (h : S16384x4096.Idx → EReal) (w : S4096x25664.Idx → EReal) : S16384x16384.Idx → EReal :=
  fun i => Ideal.logistic (∑ k : Fin 4096, h (ix2 (i 0) k) * w (ix2 k (gateCol (i 1))))

/-- One slab's payload at an element: the sigmoid of a row of the hidden block times a row of the weight block. -/
theorem slab_apply (v0 : Vec Ideal S2048x4096 .bf16) (v1 : Vec Ideal S256x4096 .bf16) (x : S2048x256.Idx) :
    k0_pay1 v0 v1 x = Ideal.logistic (∑ k : Fin 4096, v0 (ix2 (x 0) k) * v1 (ix2 (x 1) k)) := by
  unfold k0_pay1
  simp only [pointwise, zero_add, Sigmoid.half_bits]
  exact Sigmoid.eq_logistic _

variable (m : (ℓ : Loc nD τ sig) → Buf (Elt Ideal) ℓ) (ρ : Dev nD → PrngReg)

/-- The weights the kernel is given are the argument's last columns, transposed. -/
theorem V_w (c : Dev nD) (i : S16384x4096.Idx) :
    V m c main_v2 i = m ((c : Thread nD τ).loc main_arg1) (ix2 (i 1) (gateCol (i 0)) : S4096x25664.Idx) := by
  have h : V m c main_v2 = (truncf .bf16 (extractStridedSlice S16384x4096 ![9280, 0]
      (transpose S25664x4096 [1, 0] (m ((c : Thread nD τ).loc main_arg1)) transposes_S4096x25664_S25664x4096_1_0)
      slices_S25664x4096_S16384x4096_9280_0) bitsLt_bf16_f32 : FVec Ideal S16384x4096 .bf16) := by
    dsimp only [V, hostOps0]
    after_results
  rw [h]
  simp only [pointwise]
  refine congrArg _ (congrArg₂ ix2 (Fin.ext ?_) rfl)
  exact Nat.zero_add _

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![(grid0.coords t 1).val, 0] :=
  (by decide +kernel : ∀ t : Fin grid0.N, win0_1.index t = ![(grid0.coords t 1).val, 0])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

theorem blk0 (c : Dev nD) (t : Fin cfg0.N) (j : S2048x4096.Idx) (i : S16384x4096.Idx)
    (h0 : (i 0).val = (grid0.coords t 0).val * 2048 + (j 0).val) (h1 : (i 1).val = (j 1).val) :
    iblk m c 0 t j = m ((c : Thread nD τ).loc main_arg0) i := by
  blk_simp [iblk]
  show V m c main_arg0 _ = _
  rw [V_main_arg0]
  exact congrArg _ (by blk_ext [idx0])

theorem blk1 (c : Dev nD) (t : Fin cfg0.N) (j : S512x4096.Idx) (k : Fin 4096) (n : Fin 16384)
    (h0 : n.val = (grid0.coords t 1).val * 512 + (j 0).val) (h1 : k.val = (j 1).val) :
    iblk m c 1 t j = m ((c : Thread nD τ).loc main_arg1) (ix2 k (gateCol n) : S4096x25664.Idx) := by
  blk_simp [iblk]
  show V m c main_v2 _ = _
  rw [V_w]
  refine congrArg _ (congrArg₂ ix2 (Fin.ext ?_) (Fin.ext (congrArg (9280 + ·) ?_)))
  all_goals blk_simp [idx1]
  all_goals omega

/-- What the kernel's run leaves in its output array. -/
theorem final (c : Dev nD) : (dats m 0 c).arrAt 2 cfg0.N
    = gates (m ((c : Thread nD τ).loc main_arg0)) (m ((c : Thread nD τ).loc main_arg1)) := by
  refine (dats m 0 c).arrAt_eq_of_covers 2 _ (by decide +kernel) fun t hf y => ?_
  blk_simp
  rw [after0_2]
  canon_tiles y h
  all_goals
    refine (slab_apply _ _ _).trans ?_
    unfold gates
    refine congrArg Ideal.logistic (Finset.sum_congr rfl fun k _ =>
      congrArg₂ (· * ·) (blk0 m c t _ _ ?_ ?_) (blk1 m c t _ _ _ ?_ ?_))
  all_goals blk_simp [idx2, Rect.idx_unit_val]
  all_goals omega

/-- The kernel's run: its result is the gates of the arguments, which it leaves unchanged. -/
theorem run : θ_run defs (onTc (τ := τ) (main (F := Ideal))) ⟨m, fun _ => 0, ρ⟩ fun r => ∀ c : Dev nD,
      r.2.mem ((c : Thread nD τ).loc main_v3)
        = gates (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel3Ideal.RefValue

namespace Cert.Reference3Ideal.RefValue

open Cert.Reference3Ideal Cert.Reference3Ideal.Read

/-- The reference's value is the same gates. -/
theorem val_eq (x0 : (⟨S16384x4096, .bf16⟩ : BufTy).Contents (Elt Ideal)) (x1 : (⟨S4096x25664, .f32⟩ : BufTy).Contents (Elt Ideal)) :
    val_main_v9 (F := Ideal) x0 x1 = Cert.Kernel3Ideal.RefValue.gates x0 x1 := by
  funext i
  rw [val_main_v9_apply, val_main_v8_apply, val_main_v7_apply, val_main_v6_apply, val_main_v5_apply, val_main_v4_apply,
    val_main_v3_apply, val_main_v2_apply, val_main_cst_apply, val_main_cst_0_apply]
  simp only [pointwise]
  unfold Cert.Kernel3Ideal.RefValue.gates
  refine congrArg Ideal.logistic (Finset.sum_congr rfl fun k _ => ?_)
  rw [val_main_v0_apply, val_main_v1_apply]
  refine congrArg₂ (· * ·) (congrArg x0 ?_) (congrArg x1 ?_)
  · funext a; match a with | ⟨0, _⟩ => rfl | ⟨1, _⟩ => rfl
  · funext a; match a with | ⟨0, _⟩ => rfl | ⟨1, _⟩ => rfl

end Cert.Reference3Ideal.RefValue

namespace Cert.Gates3

/-- The gates' kernel and its reference compute one function of the arguments. -/
theorem algebraic : Cert.algebraic_Kernel3Ideal_Reference3Ideal := fun m g m' g' _ hag =>
  ⟨fun c => Cert.Kernel3Ideal.RefValue.gates _ _, Cert.Kernel3Ideal.RefValue.run m g,
    (θ_run _ _ _).mono (fun _ h c => ⟨(h c).1.trans ((Cert.Reference3Ideal.RefValue.val_eq _ _).trans (by
      rw [(hag c).1, (hag c).2])), (h c).2⟩) (Cert.Reference3Ideal.Value.run m' g')⟩

end Cert.Gates3

end
-- ==== Proof.Residual4.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

/-- The residual product `x + hid · w`, element by element. -/
def resid (hid : S16384x11008.Idx → EReal) (w : S11008x4096.Idx → EReal) (x : S16384x4096.Idx → EReal) :
    S16384x4096.Idx → EReal :=
  fun i => x i + ∑ k : Fin 11008, hid (ix2 (i 0) k) * w (ix2 k (i 1))

/-- One slab's payload at an element: the residual's element plus the row of the hidden block times the weight block's column. -/
theorem slab_apply (v0 : Vec Ideal S512x256 .f32) (v1 : Vec Ideal S512x11008 .bf16) (v2 : Vec Ideal S11008x256 .bf16) (x : S512x256.Idx) :
    k0_pay1 v0 v1 v2 x = v0 x + ∑ k : Fin 11008, v1 (ix2 (x 0) k) * v2 (ix2 k (x 1)) := by
  unfold k0_pay1
  simp only [pointwise, zero_add]

variable (m : (ℓ : Loc nD τ sig) → Buf (Elt Ideal) ℓ) (ρ : Dev nD → PrngReg)

/-- The weights the kernel is given are the argument (the host only changes their format). -/
theorem V_w (c : Dev nD) (i : S11008x4096.Idx) :
    V m c main_v0 i = m ((c : Thread nD τ).loc main_arg1) i := by
  have h : V m c main_v0 = (truncf .bf16 (m ((c : Thread nD τ).loc main_arg1)) bitsLt_bf16_f32 : FVec Ideal S11008x4096 .bf16) := by
    dsimp only [V, hostOps0]
    after_results
  rw [h]; rfl

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

theorem blk0 (c : Dev nD) (t : Fin cfg0.N) (j : S512x11008.Idx) (i : S16384x11008.Idx)
    (h0 : (i 0).val = (grid0.coords t 0).val * 512 + (j 0).val) (h1 : (i 1).val = (j 1).val) :
    iblk m c 0 t j = m ((c : Thread nD τ).loc main_arg0) i := by
  blk_simp [iblk]
  show V m c main_arg0 _ = _
  rw [V_main_arg0]
  exact congrArg _ (by blk_ext [idx0])

theorem blk1 (c : Dev nD) (t : Fin cfg0.N) (j : S11008x512.Idx) (i : S11008x4096.Idx)
    (h0 : (i 0).val = (j 0).val) (h1 : (i 1).val = (grid0.coords t 1).val * 512 + (j 1).val) :
    iblk m c 1 t j = m ((c : Thread nD τ).loc main_arg1) i := by
  blk_simp [iblk]
  show V m c main_v0 _ = _
  rw [V_w]
  exact congrArg _ (by blk_ext [idx1])

theorem blk2 (c : Dev nD) (t : Fin cfg0.N) (j : S512x512.Idx) (i : S16384x4096.Idx)
    (h0 : (i 0).val = (grid0.coords t 0).val * 512 + (j 0).val) (h1 : (i 1).val = (grid0.coords t 1).val * 512 + (j 1).val) :
    iblk m c 2 t j = m ((c : Thread nD τ).loc main_arg2) i := by
  blk_simp [iblk]
  show V m c main_arg2 _ = _
  rw [V_main_arg2]
  exact congrArg _ (by blk_ext [idx2])

theorem final (c : Dev nD) : (dats m 0 c).arrAt 3 cfg0.N
    = resid (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  canon_tiles y h
  all_goals
    refine (slab_apply _ _ _ _).trans ?_
    unfold resid
    refine congrArg₂ (· + ·) (blk2 m c t _ _ ?_ ?_) (Finset.sum_congr rfl fun k _ =>
      congrArg₂ (· * ·) (blk0 m c t _ _ ?_ ?_) (blk1 m c t _ _ ?_ ?_))
  all_goals blk_simp [idx3, Rect.idx_unit_val]
  all_goals omega

/-- The kernel's run: its result is the residual product of the arguments, which it leaves unchanged. -/
theorem run : θ_run defs (onTc (τ := τ) (main (F := Ideal))) ⟨m, fun _ => 0, ρ⟩ fun r => ∀ c : Dev nD,
      r.2.mem ((c : Thread nD τ).loc main_v1)
        = resid (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel4Ideal.RefValue

namespace Cert.Reference4Ideal.RefValue

open Cert.Reference4Ideal Cert.Reference4Ideal.Read

/-- The reference's value is the same residual product. -/
theorem val_eq (x0 : (⟨S16384x11008, .bf16⟩ : BufTy).Contents (Elt Ideal)) (x1 : (⟨S11008x4096, .f32⟩ : BufTy).Contents (Elt Ideal))
    (x2 : (⟨S16384x4096, .f32⟩ : BufTy).Contents (Elt Ideal)) :
    val_main_v2 (F := Ideal) x0 x1 x2 = Cert.Kernel4Ideal.RefValue.resid x0 x1 x2 := by
  funext i
  rw [val_main_v2_apply, val_main_v1_apply]
  unfold Cert.Kernel4Ideal.RefValue.resid
  refine congrArg (x2 i + ·) (Finset.sum_congr rfl fun k _ => ?_)
  rw [val_main_v0_apply]
  refine congrArg₂ (· * ·) (congrArg x0 ?_) (congrArg x1 ?_)
  · funext a; match a with | ⟨0, _⟩ => rfl | ⟨1, _⟩ => rfl
  · funext a; match a with | ⟨0, _⟩ => rfl | ⟨1, _⟩ => rfl

end Cert.Reference4Ideal.RefValue

namespace Cert.Residual4

/-- The residual product's kernel and its reference compute one function of the arguments. -/
theorem algebraic : Cert.algebraic_Kernel4Ideal_Reference4Ideal := fun m g m' g' _ hag =>
  ⟨fun c => Cert.Kernel4Ideal.RefValue.resid _ _ _, Cert.Kernel4Ideal.RefValue.run m g,
    (θ_run _ _ _).mono (fun _ h c => ⟨(h c).1.trans ((Cert.Reference4Ideal.RefValue.val_eq _ _ _).trans (by
      rw [(hag c).1, (hag c).2.1, (hag c).2.2])), (h c).2⟩) (Cert.Reference4Ideal.Value.run m' g')⟩

end Cert.Residual4

end
-- ==== Proof.Merge5.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

/-- A gate's column: branch `b`'s gates fill the columns from `4096 b` on. -/
def gateCol (b : Fin 4) (n : Fin 4096) : Fin 16384 := ⟨4096 * b.val + n.val, by omega⟩

/-- One branch's gated projection at row `r` and column `n`. -/
def branch (b : Fin 4) (o : S16384x1024.Idx → EReal) (w : S4x1024x4096.Idx → EReal) (g : S16384x16384.Idx → EReal)
    (r : Fin 16384) (n : Fin 4096) : EReal :=
  g (ix2 r (gateCol b n)) * (∑ k : Fin 1024, o (ix2 r k) * w (ix3 b k n))

/-- The merge: the four branches' projections, each times its gate, added up. -/
def merge (oa ob oc od : S16384x1024.Idx → EReal) (w : S4x1024x4096.Idx → EReal) (g : S16384x16384.Idx → EReal) :
    S16384x4096.Idx → EReal :=
  fun i => branch 0 oa w g (i 0) (i 1) + branch 1 ob w g (i 0) (i 1) + branch 2 oc w g (i 0) (i 1) + branch 3 od w g (i 0) (i 1)

/-- One slab's payload at an element. -/
theorem slab_apply (g0 g1 g2 g3 : Vec Ideal S1024x256 .bf16) (a0 a1 a2 a3 : Vec Ideal S1024x1024 .bf16)
    (w0 w1 w2 w3 : Vec Ideal S1x1024x256 .bf16) (x : S1024x256.Idx) :
    k0_pay4 (k0_pay2 g0 a0 w0 g1 a1 w1 g2 a2 w2) (k0_pay3 g3) a3 w3 x
      = g0 x * (∑ k : Fin 1024, a0 (ix2 (x 0) k) * w0 (ix3 0 k (x 1))) + g1 x * (∑ k : Fin 1024, a1 (ix2 (x 0) k) * w1 (ix3 0 k (x 1)))
        + g2 x * (∑ k : Fin 1024, a2 (ix2 (x 0) k) * w2 (ix3 0 k (x 1))) + g3 x * (∑ k : Fin 1024, a3 (ix2 (x 0) k) * w3 (ix3 0 k (x 1))) := by
  unfold k0_pay4 k0_pay2 k0_pay3
  simp only [pointwise, zero_add]

variable (m : (ℓ : Loc nD τ sig) → Buf (Elt Ideal) ℓ) (ρ : Dev nD → PrngReg)

/-- The weights the kernel is given are the argument (the host only changes their format). -/
theorem V_w (c : Dev nD) (i : S4x1024x4096.Idx) :
    V m c main_v0 i = m ((c : Thread nD τ).loc main_arg4) i := by
  have h : V m c main_v0 = (truncf .bf16 (m ((c : Thread nD τ).loc main_arg4)) bitsLt_bf16_f32 : FVec Ideal S4x1024x4096 .bf16) := by
    dsimp only [V, hostOps0]
    after_results
  rw [h]; rfl

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![(grid0.coords t 0).val, 0] :=
  (by decide +kernel : ∀ t : Fin grid0.N, win0_1.index t = ![(grid0.coords t 0).val, 0])
theorem idx2 : ∀ t : Fin cfg0.N, win0_2.index t = ![(grid0.coords t 0).val, 0] :=
  (by decide +kernel : ∀ t : Fin grid0.N, win0_2.index t = ![(grid0.coords t 0).val, 0])
theorem idx3 : ∀ t : Fin cfg0.N, win0_3.index t = ![(grid0.coords t 0).val, 0] :=
  (by decide +kernel : ∀ t : Fin grid0.N, win0_3.index t = ![(grid0.coords t 0).val, 0])
theorem idx4 : ∀ t : Fin cfg0.N, win0_4.index t = ![0, 0, (grid0.coords t 1).val] :=
  (by decide +kernel : ∀ t : Fin grid0.N, win0_4.index t = ![0, 0, (grid0.coords t 1).val])
theorem idx5 : ∀ t : Fin cfg0.N, win0_5.index t = ![(grid0.coords t 0).val, (grid0.coords t 1).val] :=
  (by decide +kernel : ∀ t : Fin grid0.N, win0_5.index t = ![(grid0.coords t 0).val, (grid0.coords t 1).val])
theorem idx6 : ∀ t : Fin cfg0.N, win0_6.index t = ![(grid0.coords t 0).val, (grid0.coords t 1).val + 4] :=
  (by decide +kernel : ∀ t : Fin grid0.N, win0_6.index t = ![(grid0.coords t 0).val, (grid0.coords t 1).val + 4])
theorem idx7 : ∀ t : Fin cfg0.N, win0_7.index t = ![(grid0.coords t 0).val, (grid0.coords t 1).val + 8] :=
  (by decide +kernel : ∀ t : Fin grid0.N, win0_7.index t = ![(grid0.coords t 0).val, (grid0.coords t 1).val + 8])
theorem idx8 : ∀ t : Fin cfg0.N, win0_8.index t = ![(grid0.coords t 0).val, (grid0.coords t 1).val + 12] :=
  (by decide +kernel : ∀ t : Fin grid0.N, win0_8.index t = ![(grid0.coords t 0).val, (grid0.coords t 1).val + 12])
theorem idx9 : ∀ t : Fin cfg0.N, win0_9.index t = ![(grid0.coords t 0).val, (grid0.coords t 1).val] :=
  (by decide +kernel : ∀ t : Fin grid0.N, win0_9.index t = ![(grid0.coords t 0).val, (grid0.coords t 1).val])

theorem blk0 (c : Dev nD) (t : Fin cfg0.N) (j : S1024x1024.Idx) (i : S16384x1024.Idx)
    (h0 : (i 0).val = (grid0.coords t 0).val * 1024 + (j 0).val) (h1 : (i 1).val = (j 1).val) :
    iblk m c 0 t j = m ((c : Thread nD τ).loc main_arg0) i := by
  blk_simp [iblk]
  show V m c main_arg0 _ = _
  rw [V_main_arg0]
  exact congrArg _ (by blk_ext [idx0])

theorem blk1 (c : Dev nD) (t : Fin cfg0.N) (j : S1024x1024.Idx) (i : S16384x1024.Idx)
    (h0 : (i 0).val = (grid0.coords t 0).val * 1024 + (j 0).val) (h1 : (i 1).val = (j 1).val) :
    iblk m c 1 t j = m ((c : Thread nD τ).loc main_arg1) i := by
  blk_simp [iblk]
  show V m c main_arg1 _ = _
  rw [V_main_arg1]
  exact congrArg _ (by blk_ext [idx1])

theorem blk2 (c : Dev nD) (t : Fin cfg0.N) (j : S1024x1024.Idx) (i : S16384x1024.Idx)
    (h0 : (i 0).val = (grid0.coords t 0).val * 1024 + (j 0).val) (h1 : (i 1).val = (j 1).val) :
    iblk m c 2 t j = m ((c : Thread nD τ).loc main_arg2) i := by
  blk_simp [iblk]
  show V m c main_arg2 _ = _
  rw [V_main_arg2]
  exact congrArg _ (by blk_ext [idx2])

theorem blk3 (c : Dev nD) (t : Fin cfg0.N) (j : S1024x1024.Idx) (i : S16384x1024.Idx)
    (h0 : (i 0).val = (grid0.coords t 0).val * 1024 + (j 0).val) (h1 : (i 1).val = (j 1).val) :
    iblk m c 3 t j = m ((c : Thread nD τ).loc main_arg3) i := by
  blk_simp [iblk]
  show V m c main_arg3 _ = _
  rw [V_main_arg3]
  exact congrArg _ (by blk_ext [idx3])

theorem blk4 (c : Dev nD) (t : Fin cfg0.N) (j : S4x1024x1024.Idx) (b : Fin 4) (k : Fin 1024) (n : Fin 4096)
    (h0 : b.val = (j 0).val) (h1 : k.val = (j 1).val) (h2 : n.val = (grid0.coords t 1).val * 1024 + (j 2).val) :
    iblk m c 4 t j = m ((c : Thread nD τ).loc main_arg4) (ix3 b k n : S4x1024x4096.Idx) := by
  blk_simp [iblk]
  show V m c main_v0 _ = _
  rw [V_w]
  exact congrArg _ (by blk_ext [idx4])

theorem blk5 (c : Dev nD) (t : Fin cfg0.N) (j : S1024x1024.Idx) (r : Fin 16384) (n : Fin 4096)
    (h0 : r.val = (grid0.coords t 0).val * 1024 + (j 0).val) (h1 : n.val = (grid0.coords t 1).val * 1024 + (j 1).val) :
    iblk m c 5 t j = m ((c : Thread nD τ).loc main_arg5) (ix2 r (gateCol 0 n) : S16384x16384.Idx) := by
  blk_simp [iblk]
  show V m c main_arg5 _ = _
  rw [V_main_arg5]
  exact congrArg _ (by blk_ext [idx5, gateCol])

theorem blk6 (c : Dev nD) (t : Fin cfg0.N) (j : S1024x1024.Idx) (r : Fin 16384) (n : Fin 4096)
    (h0 : r.val = (grid0.coords t 0).val * 1024 + (j 0).val) (h1 : n.val = (grid0.coords t 1).val * 1024 + (j 1).val) :
    iblk m c 6 t j = m ((c : Thread nD τ).loc main_arg5) (ix2 r (gateCol 1 n) : S16384x16384.Idx) := by
  blk_simp [iblk]
  show V m c main_arg5 _ = _
  rw [V_main_arg5]
  exact congrArg _ (by blk_ext [idx6, gateCol])

theorem blk7 (c : Dev nD) (t : Fin cfg0.N) (j : S1024x1024.Idx) (r : Fin 16384) (n : Fin 4096)
    (h0 : r.val = (grid0.coords t 0).val * 1024 + (j 0).val) (h1 : n.val = (grid0.coords t 1).val * 1024 + (j 1).val) :
    iblk m c 7 t j = m ((c : Thread nD τ).loc main_arg5) (ix2 r (gateCol 2 n) : S16384x16384.Idx) := by
  blk_simp [iblk]
  show V m c main_arg5 _ = _
  rw [V_main_arg5]
  exact congrArg _ (by blk_ext [idx7, gateCol])

theorem blk8 (c : Dev nD) (t : Fin cfg0.N) (j : S1024x1024.Idx) (r : Fin 16384) (n : Fin 4096)
    (h0 : r.val = (grid0.coords t 0).val * 1024 + (j 0).val) (h1 : n.val = (grid0.coords t 1).val * 1024 + (j 1).val) :
    iblk m c 8 t j = m ((c : Thread nD τ).loc main_arg5) (ix2 r (gateCol 3 n) : S16384x16384.Idx) := by
  blk_simp [iblk]
  show V m c main_arg5 _ = _
  rw [V_main_arg5]
  exact congrArg _ (by blk_ext [idx8, gateCol])

/-- What the kernel's run leaves in its output array. -/
theorem final (c : Dev nD) : (dats m 0 c).arrAt 9 cfg0.N
    = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  canon_tiles y h
  all_goals
    refine (slab_apply _ _ _ _ _ _ _ _ _ _ _ _ _).trans ?_
    unfold merge branch
    refine congrArg₂ (· + ·) (congrArg₂ (· + ·) (congrArg₂ (· + ·)
      (congrArg₂ (· * ·) (blk5 m c t _ _ _ ?_ ?_) (Finset.sum_congr rfl fun k _ =>
        congrArg₂ (· * ·) (blk0 m c t _ _ ?_ ?_) (blk4 m c t _ _ _ _ ?_ ?_ ?_)))
      (congrArg₂ (· * ·) (blk6 m c t _ _ _ ?_ ?_) (Finset.sum_congr rfl fun k _ =>
        congrArg₂ (· * ·) (blk1 m c t _ _ ?_ ?_) (blk4 m c t _ _ _ _ ?_ ?_ ?_))))
      (congrArg₂ (· * ·) (blk7 m c t _ _ _ ?_ ?_) (Finset.sum_congr rfl fun k _ =>
        congrArg₂ (· * ·) (blk2 m c t _ _ ?_ ?_) (blk4 m c t _ _ _ _ ?_ ?_ ?_))))
      (congrArg₂ (· * ·) (blk8 m c t _ _ _ ?_ ?_) (Finset.sum_congr rfl fun k _ =>
        congrArg₂ (· * ·) (blk3 m c t _ _ ?_ ?_) (blk4 m c t _ _ _ _ ?_ ?_ ?_)))
  all_goals blk_simp [idx9, Rect.idx_unit_val]
  all_goals omega

/-- The kernel's run: its result is the merge of the arguments, which it leaves unchanged. -/
theorem run : θ_run defs (onTc (τ := τ) (main (F := Ideal))) ⟨m, fun _ => 0, ρ⟩ fun r => ∀ c : Dev nD,
      r.2.mem ((c : Thread nD τ).loc main_v1)
        = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Kernel5Ideal.RefValue

namespace Cert.Reference5Ideal.RefValue

open Cert.Reference5Ideal Cert.Reference5Ideal.Read

/-- The reference's gated projection of branch 0. -/
theorem branch0 (x0 : (⟨S16384x1024, .bf16⟩ : BufTy).Contents (Elt Ideal)) (x4 : (⟨S4x1024x4096, .f32⟩ : BufTy).Contents (Elt Ideal))
    (x5 : (⟨S16384x16384, .bf16⟩ : BufTy).Contents (Elt Ideal)) (i : S16384x4096.Idx) :
    val_main_v7 (F := Ideal) x0 x4 x5 i = Cert.Kernel5Ideal.RefValue.branch 0 x0 x4 x5 (i 0) (i 1) := by
  rw [val_main_v7_apply, val_main_v2_apply, val_main_v1_apply, val_main_v6_apply]
  unfold Cert.Kernel5Ideal.RefValue.branch
  refine congrArg₂ (· * ·) (congrArg x5 ?_) (Finset.sum_congr rfl fun k _ => ?_)
  · funext a; match a with | ⟨0, _⟩ => rfl | ⟨1, _⟩ => exact Fin.ext (show (i 1).val = 4096 * 0 + (i 1).val by omega)
  · rw [val_main_v3_apply, val_main_v5_apply, val_main_v4_apply]
    refine congrArg₂ (· * ·) (congrArg x0 ?_) (congrArg x4 ?_)
    · funext a; match a with | ⟨0, _⟩ => rfl | ⟨1, _⟩ => rfl
    · have hk := k.isLt
      have hn : (i 1).val < 4096 := (i 1).isLt
      funext a
      match a with
      | ⟨0, _⟩ => rfl
      | ⟨1, _⟩ => exact Fin.ext (show (k.val * 4096 + (i 1).val) / 4096 % 1024 = k.val by omega)
      | ⟨2, _⟩ => exact Fin.ext (show (k.val * 4096 + (i 1).val) % 4096 = (i 1).val by omega)

/-- The reference's gated projection of branch 1. -/
theorem branch1 (x1 : (⟨S16384x1024, .bf16⟩ : BufTy).Contents (Elt Ideal)) (x4 : (⟨S4x1024x4096, .f32⟩ : BufTy).Contents (Elt Ideal))
    (x5 : (⟨S16384x16384, .bf16⟩ : BufTy).Contents (Elt Ideal)) (i : S16384x4096.Idx) :
    val_main_v15 (F := Ideal) x1 x4 x5 i = Cert.Kernel5Ideal.RefValue.branch 1 x1 x4 x5 (i 0) (i 1) := by
  rw [val_main_v15_apply, val_main_v10_apply, val_main_v9_apply, val_main_v14_apply]
  unfold Cert.Kernel5Ideal.RefValue.branch
  refine congrArg₂ (· * ·) (congrArg x5 ?_) (Finset.sum_congr rfl fun k _ => ?_)
  · funext a; match a with | ⟨0, _⟩ => rfl | ⟨1, _⟩ => rfl
  · rw [val_main_v11_apply, val_main_v13_apply, val_main_v12_apply]
    refine congrArg₂ (· * ·) (congrArg x1 ?_) (congrArg x4 ?_)
    · funext a; match a with | ⟨0, _⟩ => rfl | ⟨1, _⟩ => rfl
    · have hk := k.isLt
      have hn : (i 1).val < 4096 := (i 1).isLt
      funext a
      match a with
      | ⟨0, _⟩ => rfl
      | ⟨1, _⟩ => exact Fin.ext (show (k.val * 4096 + (i 1).val) / 4096 % 1024 = k.val by omega)
      | ⟨2, _⟩ => exact Fin.ext (show (k.val * 4096 + (i 1).val) % 4096 = (i 1).val by omega)

/-- The reference's gated projection of branch 2. -/
theorem branch2 (x2 : (⟨S16384x1024, .bf16⟩ : BufTy).Contents (Elt Ideal)) (x4 : (⟨S4x1024x4096, .f32⟩ : BufTy).Contents (Elt Ideal))
    (x5 : (⟨S16384x16384, .bf16⟩ : BufTy).Contents (Elt Ideal)) (i : S16384x4096.Idx) :
    val_main_v23 (F := Ideal) x2 x4 x5 i = Cert.Kernel5Ideal.RefValue.branch 2 x2 x4 x5 (i 0) (i 1) := by
  rw [val_main_v23_apply, val_main_v18_apply, val_main_v17_apply, val_main_v22_apply]
  unfold Cert.Kernel5Ideal.RefValue.branch
  refine congrArg₂ (· * ·) (congrArg x5 ?_) (Finset.sum_congr rfl fun k _ => ?_)
  · funext a; match a with | ⟨0, _⟩ => rfl | ⟨1, _⟩ => rfl
  · rw [val_main_v19_apply, val_main_v21_apply, val_main_v20_apply]
    refine congrArg₂ (· * ·) (congrArg x2 ?_) (congrArg x4 ?_)
    · funext a; match a with | ⟨0, _⟩ => rfl | ⟨1, _⟩ => rfl
    · have hk := k.isLt
      have hn : (i 1).val < 4096 := (i 1).isLt
      funext a
      match a with
      | ⟨0, _⟩ => rfl
      | ⟨1, _⟩ => exact Fin.ext (show (k.val * 4096 + (i 1).val) / 4096 % 1024 = k.val by omega)
      | ⟨2, _⟩ => exact Fin.ext (show (k.val * 4096 + (i 1).val) % 4096 = (i 1).val by omega)

/-- The reference's gated projection of branch 3. -/
theorem branch3 (x3 : (⟨S16384x1024, .bf16⟩ : BufTy).Contents (Elt Ideal)) (x4 : (⟨S4x1024x4096, .f32⟩ : BufTy).Contents (Elt Ideal))
    (x5 : (⟨S16384x16384, .bf16⟩ : BufTy).Contents (Elt Ideal)) (i : S16384x4096.Idx) :
    val_main_v31 (F := Ideal) x3 x4 x5 i = Cert.Kernel5Ideal.RefValue.branch 3 x3 x4 x5 (i 0) (i 1) := by
  rw [val_main_v31_apply, val_main_v26_apply, val_main_v25_apply, val_main_v30_apply]
  unfold Cert.Kernel5Ideal.RefValue.branch
  refine congrArg₂ (· * ·) (congrArg x5 ?_) (Finset.sum_congr rfl fun k _ => ?_)
  · funext a; match a with | ⟨0, _⟩ => rfl | ⟨1, _⟩ => rfl
  · rw [val_main_v27_apply, val_main_v29_apply, val_main_v28_apply]
    refine congrArg₂ (· * ·) (congrArg x3 ?_) (congrArg x4 ?_)
    · funext a; match a with | ⟨0, _⟩ => rfl | ⟨1, _⟩ => rfl
    · have hk := k.isLt
      have hn : (i 1).val < 4096 := (i 1).isLt
      funext a
      match a with
      | ⟨0, _⟩ => rfl
      | ⟨1, _⟩ => exact Fin.ext (show (k.val * 4096 + (i 1).val) / 4096 % 1024 = k.val by omega)
      | ⟨2, _⟩ => exact Fin.ext (show (k.val * 4096 + (i 1).val) % 4096 = (i 1).val by omega)

/-- The reference's value is the same merge: it starts its sum from zero. -/
theorem val_eq (x0 x1 x2 x3 : (⟨S16384x1024, .bf16⟩ : BufTy).Contents (Elt Ideal)) (x4 : (⟨S4x1024x4096, .f32⟩ : BufTy).Contents (Elt Ideal))
    (x5 : (⟨S16384x16384, .bf16⟩ : BufTy).Contents (Elt Ideal)) :
    val_main_v33 (F := Ideal) x0 x1 x2 x3 x4 x5 = Cert.Kernel5Ideal.RefValue.merge x0 x1 x2 x3 x4 x5 := by
  funext i
  rw [val_main_v33_apply, val_main_v32_apply, val_main_v24_apply, val_main_v16_apply, val_main_v8_apply, val_main_v0_apply,
    val_main_cst_apply, branch0, branch1, branch2, branch3]
  simp only [pointwise, zero_add]
  rfl

end Cert.Reference5Ideal.RefValue

namespace Cert.Merge5

/-- The merge's kernel and its reference compute one function of the arguments. -/
theorem algebraic : Cert.algebraic_Kernel5Ideal_Reference5Ideal := fun m g m' g' _ hag =>
  ⟨fun c => Cert.Kernel5Ideal.RefValue.merge _ _ _ _ _ _, Cert.Kernel5Ideal.RefValue.run m g,
    (θ_run _ _ _).mono (fun _ h c => ⟨(h c).1.trans ((Cert.Reference5Ideal.RefValue.val_eq _ _ _ _ _ _).trans (by
      rw [(hag c).1, (hag c).2.1, (hag c).2.2.1, (hag c).2.2.2.1, (hag c).2.2.2.2.1, (hag c).2.2.2.2.2])), (h c).2⟩)
      (Cert.Reference5Ideal.Value.run m' g')⟩

end Cert.Merge5

end
-- ==== Proof.Residual6.lean ====
module

public import proofs.«01_k».proof.Defs
public import proofs.«01_k».proof.Proof.Gen.Kernel6Ideal.Value
public import proofs.«01_k».proof.Proof.Gen.Reference6Ideal.Read
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

/-- The residual product `x + mrg · w`, element by element. -/
def resid (mrg : S16384x4096.Idx → EReal) (w : S4096x4096.Idx → EReal) (x : S16384x4096.Idx → EReal) :
    S16384x4096.Idx → EReal :=
  fun i => x i + ∑ k : Fin 4096, mrg (ix2 (i 0) k) * w (ix2 k (i 1))

/-- One slab's payload at an element: the residual's element plus the row of the merged block times the weight block's column. -/
theorem slab_apply (v0 : Vec Ideal S1024x256 .f32) (v1 : Vec Ideal S1024x4096 .bf16) (v2 : Vec Ideal S4096x256 .bf16) (x : S1024x256.Idx) :
    k0_pay1 v0 v1 v2 x = v0 x + ∑ k : Fin 4096, v1 (ix2 (x 0) k) * v2 (ix2 k (x 1)) := by
  unfold k0_pay1
  simp only [pointwise, zero_add]

variable (m : (ℓ : Loc nD τ sig) → Buf (Elt Ideal) ℓ) (ρ : Dev nD → PrngReg)

/-- The weights the kernel is given are the argument (the host only changes their format). -/
theorem V_w (c : Dev nD) (i : S4096x4096.Idx) :
    V m c main_v0 i = m ((c : Thread nD τ).loc main_arg1) i := by
  have h : V m c main_v0 = (truncf .bf16 (m ((c : Thread nD τ).loc main_arg1)) bitsLt_bf16_f32 : FVec Ideal S4096x4096 .bf16) := by
    dsimp only [V, hostOps0]
    after_results
  rw [h]; rfl

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

theorem blk0 (c : Dev nD) (t : Fin cfg0.N) (j : S1024x4096.Idx) (i : S16384x4096.Idx)
    (h0 : (i 0).val = (grid0.coords t 0).val * 1024 + (j 0).val) (h1 : (i 1).val = (j 1).val) :
    iblk m c 0 t j = m ((c : Thread nD τ).loc main_arg0) i := by
  blk_simp [iblk]
  show V m c main_arg0 _ = _
  rw [V_main_arg0]
  exact congrArg _ (by blk_ext [idx0])

theorem blk1 (c : Dev nD) (t : Fin cfg0.N) (j : S4096x1024.Idx) (i : S4096x4096.Idx)
    (h0 : (i 0).val = (j 0).val) (h1 : (i 1).val = (grid0.coords t 1).val * 1024 + (j 1).val) :
    iblk m c 1 t j = m ((c : Thread nD τ).loc main_arg1) i := by
  blk_simp [iblk]
  show V m c main_v0 _ = _
  rw [V_w]
  exact congrArg _ (by blk_ext [idx1])

theorem blk2 (c : Dev nD) (t : Fin cfg0.N) (j : S1024x1024.Idx) (i : S16384x4096.Idx)
    (h0 : (i 0).val = (grid0.coords t 0).val * 1024 + (j 0).val) (h1 : (i 1).val = (grid0.coords t 1).val * 1024 + (j 1).val) :
    iblk m c 2 t j = m ((c : Thread nD τ).loc main_arg2) i := by
  blk_simp [iblk]
  show V m c main_arg2 _ = _
  rw [V_main_arg2]
  exact congrArg _ (by blk_ext [idx2])

theorem final (c : Dev nD) : (dats m 0 c).arrAt 3 cfg0.N
    = resid (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  canon_tiles y h
  all_goals
    refine (slab_apply _ _ _ _).trans ?_
    unfold resid
    refine congrArg₂ (· + ·) (blk2 m c t _ _ ?_ ?_) (Finset.sum_congr rfl fun k _ =>
      congrArg₂ (· * ·) (blk0 m c t _ _ ?_ ?_) (blk1 m c t _ _ ?_ ?_))
  all_goals blk_simp [idx3, Rect.idx_unit_val]
  all_goals omega

/-- The kernel's run: its result is the residual product of the arguments, which it leaves unchanged. -/
theorem run : θ_run defs (onTc (τ := τ) (main (F := Ideal))) ⟨m, fun _ => 0, ρ⟩ fun r => ∀ c : Dev nD,
      r.2.mem ((c : Thread nD τ).loc main_v1)
        = resid (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel6Ideal.RefValue

namespace Cert.Reference6Ideal.RefValue

open Cert.Reference6Ideal Cert.Reference6Ideal.Read

/-- The reference's value is the same residual product. -/
theorem val_eq (x0 : (⟨S16384x4096, .bf16⟩ : BufTy).Contents (Elt Ideal)) (x1 : (⟨S4096x4096, .f32⟩ : BufTy).Contents (Elt Ideal))
    (x2 : (⟨S16384x4096, .f32⟩ : BufTy).Contents (Elt Ideal)) :
    val_main_v2 (F := Ideal) x0 x1 x2 = Cert.Kernel6Ideal.RefValue.resid x0 x1 x2 := by
  funext i
  rw [val_main_v2_apply, val_main_v1_apply]
  unfold Cert.Kernel6Ideal.RefValue.resid
  refine congrArg (x2 i + ·) (Finset.sum_congr rfl fun k _ => ?_)
  rw [val_main_v0_apply]
  refine congrArg₂ (· * ·) (congrArg x0 ?_) (congrArg x1 ?_)
  · funext a; match a with | ⟨0, _⟩ => rfl | ⟨1, _⟩ => rfl
  · funext a; match a with | ⟨0, _⟩ => rfl | ⟨1, _⟩ => rfl

end Cert.Reference6Ideal.RefValue

namespace Cert.Residual6

/-- The residual product's kernel and its reference compute one function of the arguments. -/
theorem algebraic : Cert.algebraic_Kernel6Ideal_Reference6Ideal := fun m g m' g' _ hag =>
  ⟨fun c => Cert.Kernel6Ideal.RefValue.resid _ _ _, Cert.Kernel6Ideal.RefValue.run m g,
    (θ_run _ _ _).mono (fun _ h c => ⟨(h c).1.trans ((Cert.Reference6Ideal.RefValue.val_eq _ _ _).trans (by
      rw [(hag c).1, (hag c).2.1, (hag c).2.2])), (h c).2⟩) (Cert.Reference6Ideal.Value.run m' g')⟩

end Cert.Residual6

end
-- ==== Proof.MixRun7Ideal.lean ====
/-
  The run of the mixing projection's kernel, `mm_segnorm`: what the host leaves, the two ways the body goes (a tile with
  normalised columns, a tile without), what each leaves in the output's block, and the run of the whole program. Which way
  it goes is read from a word of a table held in scalar memory, so the two cases are stated on that word.
-/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel7Ideal.Mix

open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What the host operations leave in core `c`'s buffers. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host leaves `main_arg0` as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves `main_arg1` as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves `main_arg2` as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves `main_arg3` as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves `main_arg4` as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that leaves the arrays as the proof data say, the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## Which way the body goes -/

/-- The table's word for the tile at `i`. -/
def word (x0 : Vec F S19 .i32) (i : grid0.Coords) : BitVec 32 :=
  x0 ((Rect.unit (s := S19) (k0_off1 i) S1.size (k0_off1_inb i)).toLoadRect.idx (Shape.Idx.first (numel1_S1.symm ▸ Nat.one_pos)))

/-- The tile has normalised columns. -/
def Normed (x0 : Vec F S19 .i32) (i : grid0.Coords) : Prop :=
  Scalar.cmpi .ne (Scalar.extui (Scalar.cmpi .sgt (word x0 i) 0#32) : BitVec 32) 0#32 = 1#1

instance (x0 : Vec F S19 .i32) (i : grid0.Coords) : Decidable (Normed x0 i) := by unfold Normed; infer_instance

/-- The second branch is taken where the first is not. -/
theorem plain_iff (x0 : Vec F S19 .i32) (i : grid0.Coords) :
    Scalar.cmpi .ne (Scalar.extui (Scalar.xori (Scalar.cmpi .sgt (word x0 i) 0#32) 1#1) : BitVec 32) 0#32 = 1#1 ↔ ¬ Normed x0 i := by
  unfold Normed
  generalize (Scalar.cmpi .sgt (word x0 i) 0#32 : BitVec 1) = b
  revert b; decide

/-! ## The body's accesses -/

abbrev rA : Rect S2048x4096 := Rect.unit (s := S2048x4096) ![0, 0] S2048x4096.size inb_S2048x4096_S2048x4096_0_0
abbrev rW0 : Rect S512x4096 := Rect.unit (s := S512x4096) ![0, 0] S256x4096.size inb_S512x4096_S256x4096_0_0
abbrev rW1 : Rect S512x4096 := Rect.unit (s := S512x4096) ![256, 0] S256x4096.size inb_S512x4096_S256x4096_256_0
abbrev rH0 : Rect S1x512 := Rect.unit (s := S1x512) ![0, 0] S1x256.size inb_S1x512_S1x256_0_0
abbrev rH1 : Rect S1x512 := Rect.unit (s := S1x512) ![0, 256] S1x256.size inb_S1x512_S1x256_0_256
abbrev rQ0 : Rect S1x512 := Rect.unit (s := S1x512) ![0, 0] S1x128.size inb_S1x512_S1x128_0_0
abbrev rQ1 : Rect S1x512 := Rect.unit (s := S1x512) ![0, 128] S1x128.size inb_S1x512_S1x128_0_128
abbrev rQ2 : Rect S1x512 := Rect.unit (s := S1x512) ![0, 256] S1x128.size inb_S1x512_S1x128_0_256
abbrev rQ3 : Rect S1x512 := Rect.unit (s := S1x512) ![0, 384] S1x128.size inb_S1x512_S1x128_0_384
abbrev rP0 : Rect S2048x512 := Rect.unit (s := S2048x512) ![0, 0] S2048x256.size inb_S2048x512_S2048x256_0_0
abbrev rP1 : Rect S2048x512 := Rect.unit (s := S2048x512) ![0, 256] S2048x256.size inb_S2048x512_S2048x256_0_256
abbrev rN0 : Rect S2048x512 := Rect.unit (s := S2048x512) ![0, 0] S2048x128.size inb_S2048x512_S2048x128_0_0
abbrev rN1 : Rect S2048x512 := Rect.unit (s := S2048x512) ![0, 128] S2048x128.size inb_S2048x512_S2048x128_0_128
abbrev rN2 : Rect S2048x512 := Rect.unit (s := S2048x512) ![0, 256] S2048x128.size inb_S2048x512_S2048x128_0_256
abbrev rN3 : Rect S2048x512 := Rect.unit (s := S2048x512) ![0, 384] S2048x128.size inb_S2048x512_S2048x128_0_384

/-! ## What the body leaves in the output's block -/

/-- A tile without normalised columns: two stores, last first. -/
def outP (x1 : Vec F S2048x4096 .bf16) (x2 : Vec F S512x4096 .bf16) (x3 : Vec F S1x512 .f32) : Vec F S2048x512 .bf16 :=
  View.canon [⟨rP1, k0_pay4 (View.ld x1 rA) (View.ld x2 rW1) (View.ld x3 rH1)⟩,
    ⟨rP0, k0_pay3 (View.ld x1 rA) (View.ld x2 rW0) (View.ld x3 rH0)⟩]

/-- A tile with normalised columns: four stores, last first. -/
def outN (x1 : Vec F S2048x4096 .bf16) (x2 : Vec F S512x4096 .bf16) (x3 x4 : Vec F S1x512 .f32) : Vec F S2048x512 .bf16 :=
  View.canon [⟨rN3, k0_pay2 (k0_pay10 (View.ld x1 rA) (View.ld x2 rW1)) (View.ld x4 rQ3) (View.ld x3 rQ3)⟩,
    ⟨rN2, k0_pay1 (k0_pay11 (View.ld x1 rA) (View.ld x2 rW1)) (k0_pay12 (View.ld x1 rA) (View.ld x2 rW1) (View.ld x4 rQ2)) (View.ld x3 rQ2)⟩,
    ⟨rN1, k0_pay9 (k0_pay7 (View.ld x1 rA) (View.ld x2 rW0)) (k0_pay8 (View.ld x1 rA) (View.ld x2 rW0)) (View.ld x4 rQ1) (View.ld x3 rQ1)⟩,
    ⟨rN0, k0_pay6 (View.ld x1 rA) (View.ld x2 rW0) (View.ld x4 rQ0) (View.ld x3 rQ0)⟩]

/-- The block after the body at `i`. -/
def out0_5 (x0 : Vec F S19 .i32) (i : grid0.Coords) (x1 : Vec F S2048x4096 .bf16) (x2 : Vec F S512x4096 .bf16) (x3 x4 : Vec F S1x512 .f32) :
    Vec F S2048x512 .bf16 := if Normed x0 i then outN x1 x2 x3 x4 else outP x1 x2 x3

theorem coverP (p0 p1 : Vec F S2048x256 .bf16) (y : S2048x512.Idx) :
    ∃ pc ∈ ([⟨rP1, p0⟩, ⟨rP0, p1⟩] : List (View.Piece (Elt F) S2048x512 .bf16)), y ∈ pc.1.set :=
  View.cover_of_tiled [⟨rP1, p0⟩, ⟨rP0, p1⟩] S2048x256.size (by rfl) y

theorem coverN (p0 p1 p2 p3 : Vec F S2048x128 .bf16) (y : S2048x512.Idx) :
    ∃ pc ∈ ([⟨rN3, p0⟩, ⟨rN2, p1⟩, ⟨rN1, p2⟩, ⟨rN0, p3⟩] : List (View.Piece (Elt F) S2048x512 .bf16)), y ∈ pc.1.set :=
  View.cover_of_tiled [⟨rN3, p0⟩, ⟨rN2, p1⟩, ⟨rN1, p2⟩, ⟨rN0, p3⟩] S2048x128.size (by rfl) y

/-! ## The body's triple, in the two cases -/

set_option maxHeartbeats 1000000 in
theorem sound_plain (c : Dev nD) (E : Set ℕ) (i : grid0.Coords) (arg2 : Memref sig .tc .smem S19 .i32) (harg2 : arg2.IsWhole) (arg3 : Memref sig .tc .vmem S2048x4096 .bf16) (harg3 : arg3.IsWhole) (arg4 : Memref sig .tc .vmem S512x4096 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .bf16) (harg7 : arg7.IsWhole)
    (x0 : Vec F S19 .i32) (x1 : Vec F S2048x4096 .bf16) (x2 : Vec F S512x4096 .bf16) (x3 : Vec F S1x512 .f32) (x4 : Vec F S1x512 .f32) (hc0 : ¬ (Scalar.cmpi .ne (Scalar.extui (Scalar.cmpi .sgt (word x0 i) 0#32) : BitVec 32) 0#32 = 1#1)) (hc1 : (Scalar.cmpi .ne (Scalar.extui (Scalar.xori (Scalar.cmpi .sgt (word x0 i) 0#32) 1#1) : BitVec 32) 0#32 = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outP x1 x2 x3)) -∗ K ⟨⟩))
      ⊢ wp frame (wpE (defs₀ (F := F)) Variants.none c none) E (cc0_mm_segnorm i arg2 harg2 arg3 harg3 arg4 harg4 arg5 harg5 arg6 harg6 arg7 harg7) K := by
  simp only [cc0_mm_segnorm_eq_skeleton]; unfold cc0_mm_segnorm_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverP _ _)

set_option maxHeartbeats 1000000 in
theorem sound_normed (c : Dev nD) (E : Set ℕ) (i : grid0.Coords) (arg2 : Memref sig .tc .smem S19 .i32) (harg2 : arg2.IsWhole) (arg3 : Memref sig .tc .vmem S2048x4096 .bf16) (harg3 : arg3.IsWhole) (arg4 : Memref sig .tc .vmem S512x4096 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .bf16) (harg7 : arg7.IsWhole)
    (x0 : Vec F S19 .i32) (x1 : Vec F S2048x4096 .bf16) (x2 : Vec F S512x4096 .bf16) (x3 : Vec F S1x512 .f32) (x4 : Vec F S1x512 .f32) (hc0 : (Scalar.cmpi .ne (Scalar.extui (Scalar.cmpi .sgt (word x0 i) 0#32) : BitVec 32) 0#32 = 1#1)) (hc1 : ¬ (Scalar.cmpi .ne (Scalar.extui (Scalar.xori (Scalar.cmpi .sgt (word x0 i) 0#32) 1#1) : BitVec 32) 0#32 = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outN x1 x2 x3 x4)) -∗ K ⟨⟩))
      ⊢ wp frame (wpE (defs₀ (F := F)) Variants.none c none) E (cc0_mm_segnorm i arg2 harg2 arg3 harg3 arg4 harg4 arg5 harg5 arg6 harg6 arg7 harg7) K := by
  simp only [cc0_mm_segnorm_eq_skeleton]; unfold cc0_mm_segnorm_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverN _ _ _ _)

/-- The body on whole blocks. -/
theorem sound_kernel (c : Dev nD) (E : Set ℕ) (i : grid0.Coords) (arg2 : Memref sig .tc .smem S19 .i32) (harg2 : arg2.IsWhole) (arg3 : Memref sig .tc .vmem S2048x4096 .bf16) (harg3 : arg3.IsWhole) (arg4 : Memref sig .tc .vmem S512x4096 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .bf16) (harg7 : arg7.IsWhole)
    (x0 : Vec F S19 .i32) (x1 : Vec F S2048x4096 .bf16) (x2 : Vec F S512x4096 .bf16) (x3 : Vec F S1x512 .f32) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 i x1 x2 x3 x4)) -∗ K ⟨⟩))
      ⊢ wp frame (wpE (defs₀ (F := F)) Variants.none c none) E (cc0_mm_segnorm i arg2 harg2 arg3 harg3 arg4 harg4 arg5 harg5 arg6 harg6 arg7 harg7) K := by
  by_cases h : Normed x0 i
  · rw [show out0_5 x0 i x1 x2 x3 x4 = outN x1 x2 x3 x4 from if_pos h]
    exact sound_normed c E i arg2 harg2 arg3 harg3 arg4 harg4 arg5 harg5 arg6 harg6 arg7 harg7 x0 x1 x2 x3 x4 h (fun h' => (plain_iff x0 i).mp h' h) K
  · rw [show out0_5 x0 i x1 x2 x3 x4 = outP x1 x2 x3 from if_neg h]
    exact sound_plain c E i arg2 harg2 arg3 harg3 arg4 harg4 arg5 harg5 arg6 harg6 arg7 harg7 x0 x1 x2 x3 x4 h ((plain_iff x0 i).mpr h) K

/-! ## The pipeline's proof data -/

/-- After the body at `t` each input's buffer holds its block and the output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (grid0.coords t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (grid0.coords t) (iblk m c 1 t) (iblk m c 2 t) (iblk m c 3 t) (iblk m c 4 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends as the proof data say, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## The output after the run -/

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v62) = (dats m 0 c).arrAt 5 cfg0.N :=
  (h c).1 5

/-- `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, with the output named and the arguments unchanged. -/
theorem run_blocks : θ_run defs (onTc (τ := τ) (main (F := F))) ⟨m, fun _ => 0, ρ⟩ fun r => ∀ c : Dev nD,
      r.2.mem ((c : Thread nD τ).loc main_v62) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Kernel7Ideal.Mix

end
-- ==== Proof.Mix7Host.lean ====
module

public import proofs.«01_k».proof.Defs
public import proofs.«01_k».proof.Proof.MixRun7Ideal
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen Cert.Kernel7Ideal.Mix

/-- Eight copies of a row of gains, read at a lane. -/
theorem tile8 (a : ℕ) (ha : a < 2) (x : S2x128.Idx → EReal) (hs) (h1 h2 h3 h4) (i : S1024.Idx) :
    shapeCast S1024 (broadcastInDim S8x128 ![0, 1] h1 (shapeCast S1x128 (shapeCast S128 (extractStridedSlice S1x128 ![a, 0] x hs) h2) h3)) h4 i
      = x (ix2 ⟨a, ha⟩ ⟨(i 0).val % 128, Nat.mod_lt _ (by decide)⟩ : S2x128.Idx) := by
  have hi : (i 0).val < 1024 := (i 0).isLt
  rw [shapeCast_apply _ _ i (ix2 ⟨(i 0).val / 128, by omega⟩ ⟨(i 0).val % 128, Nat.mod_lt _ (by decide)⟩ : S8x128.Idx) (by
    rewrite [Shape.rowMajor_val_two, Shape.rowMajor_val_one]; show (i 0).val / 128 * 128 + (i 0).val % 128 = (i 0).val; omega)]
  rw [broadcastInDim_apply _ h1 _ _ (ix2 0 ⟨(i 0).val % 128, Nat.mod_lt _ (by decide)⟩ : S1x128.Idx) (fun a => match a with
    | ⟨0, _⟩ => by show 0 = if (1 : Nat) = 1 then 0 else _; rw [if_pos rfl]
    | ⟨1, _⟩ => by show (i 0).val % 128 = if (128 : Nat) = 1 then 0 else (i 0).val % 128; rw [if_neg (by decide)])]
  rw [shapeCast_shapeCast, extractStridedSlice_apply ![a, 0] x hs _ (ix2 ⟨a, ha⟩ ⟨(i 0).val % 128, Nat.mod_lt _ (by decide)⟩ : S2x128.Idx) (fun b => match b with
    | ⟨0, _⟩ => rfl
    | ⟨1, _⟩ => by show (i 0).val % 128 = 0 + (i 0).val % 128; omega)]

/-- Two copies of a row of gains, read at a lane. -/
theorem tile2 (a : ℕ) (ha : a < 2) (x : S2x128.Idx → EReal) (hs) (h1 h2 h3 h4) (i : S256.Idx) :
    shapeCast S256 (broadcastInDim S2x128 ![0, 1] h1 (shapeCast S1x128 (shapeCast S128 (extractStridedSlice S1x128 ![a, 0] x hs) h2) h3)) h4 i
      = x (ix2 ⟨a, ha⟩ ⟨(i 0).val % 128, Nat.mod_lt _ (by decide)⟩ : S2x128.Idx) := by
  have hi : (i 0).val < 256 := (i 0).isLt
  rw [shapeCast_apply _ _ i (ix2 ⟨(i 0).val / 128, by omega⟩ ⟨(i 0).val % 128, Nat.mod_lt _ (by decide)⟩ : S2x128.Idx) (by
    rewrite [Shape.rowMajor_val_two, Shape.rowMajor_val_one]; show (i 0).val / 128 * 128 + (i 0).val % 128 = (i 0).val; omega)]
  rw [broadcastInDim_apply _ h1 _ _ (ix2 0 ⟨(i 0).val % 128, Nat.mod_lt _ (by decide)⟩ : S1x128.Idx) (fun a => match a with
    | ⟨0, _⟩ => by show 0 = if (1 : Nat) = 1 then 0 else _; rw [if_pos rfl]
    | ⟨1, _⟩ => by show (i 0).val % 128 = if (128 : Nat) = 1 then 0 else (i 0).val % 128; rw [if_neg (by decide)])]
  rw [shapeCast_shapeCast, extractStridedSlice_apply ![a, 0] x hs _ (ix2 ⟨a, ha⟩ ⟨(i 0).val % 128, Nat.mod_lt _ (by decide)⟩ : S2x128.Idx) (fun b => match b with
    | ⟨0, _⟩ => rfl
    | ⟨1, _⟩ => by show (i 0).val % 128 = 0 + (i 0).val % 128; omega)]

/-- The scale of the queries: √128 · ln 2. -/
def lnScale : FVec Ideal S_ .f32 := mulf (Host.sqrt (constant S_ .f32 0x43000000#32)) (Host.log (constant S_ .f32 0x40000000#32))

/-- An array of ones. -/
def ones (s : Shape) (h : S_.BroadcastsInDim s ![]) : FVec Ideal s .f32 := broadcastInDim s ![] h (constant S_ .f32 0x3F800000#32)
/-- An array of zeros. -/
def zeros (s : Shape) (h : S_.BroadcastsInDim s ![]) : FVec Ideal s .f32 := broadcastInDim s ![] h (constant S_ .f32 0x00000000#32)

/-- The queries' gain, once for each of eight heads. -/
def tiled0 (x : FVec Ideal S2x128 .f32) : FVec Ideal S1024 .f32 :=
  shapeCast S1024 (broadcastInDim S8x128 ![0, 1] bcast_S1x128_S8x128_0_1 (shapeCast S1x128 (shapeCast S128 (extractStridedSlice S1x128 ![0, 0] x slices_S2x128_S1x128_0_0) shapeCasts_S1x128_S128) shapeCasts_S128_S1x128)) shapeCasts_S8x128_S1024
/-- The keys' gain, once for each of eight heads. -/
def tiled1 (x : FVec Ideal S2x128 .f32) : FVec Ideal S1024 .f32 :=
  shapeCast S1024 (broadcastInDim S8x128 ![0, 1] bcast_S1x128_S8x128_0_1 (shapeCast S1x128 (shapeCast S128 (extractStridedSlice S1x128 ![1, 0] x slices_S2x128_S1x128_1_0) shapeCasts_S1x128_S128) shapeCasts_S128_S1x128)) shapeCasts_S8x128_S1024
/-- The keys' gain, once for each of two heads. -/
def short1 (x : FVec Ideal S2x128 .f32) : FVec Ideal S256 .f32 :=
  shapeCast S256 (broadcastInDim S2x128 ![0, 1] bcast_S1x128_S2x128_0_1 (shapeCast S1x128 (shapeCast S128 (extractStridedSlice S1x128 ![1, 0] x slices_S2x128_S1x128_1_0) shapeCasts_S1x128_S128) shapeCasts_S128_S1x128)) shapeCasts_S2x128_S256
/-- A row of gains over the scale. -/
def over (x : FVec Ideal S1024 .f32) : FVec Ideal S1024 .f32 := Host.divf x (broadcastInDim S1024 ![] bcast_S_S1024 lnScale)

/-- A row with 1024 columns from `b` on replaced. -/
def put (b : BitVec 32) (x : FVec Ideal S9728 .f32) (u : FVec Ideal S1024 .f32) : FVec Ideal S9728 .f32 :=
  Host.scatter scatter_S9728_S1_S1024_0_n_0_0 (fun _ b => b) x (broadcastInDim S1 ![] bcast_S_S1 (constantI S_ 32 b)) u
/-- A row with 256 columns from `b` on replaced. -/
def putShort (b : BitVec 32) (x : FVec Ideal S9728 .f32) (u : FVec Ideal S256 .f32) : FVec Ideal S9728 .f32 :=
  Host.scatter scatter_S9728_S1_S256_0_n_0_0 (fun _ b => b) x (broadcastInDim S1 ![] bcast_S_S1 (constantI S_ 32 b)) u

/-- The gain of each column. -/
def gainArr (g2 g3 g4 : FVec Ideal S2x128 .f32) : FVec Ideal S9728 .f32 :=
  putShort 6144#32 (put 5120#32 (put 7680#32 (put 6656#32 (put 3072#32 (put 2048#32 (ones S9728 bcast_S_S9728) (over (tiled0 g2)))
    (tiled1 g2)) (over (tiled0 g4))) (tiled1 g4)) (over (tiled0 g3))) (short1 g3)

/-- One at the columns that are normalised, zero elsewhere. -/
def flagArr : FVec Ideal S9728 .f32 := fun i => FloatOps.ofBits .f32 (lit1 (S9728.rowMajor i))

/-- The weight as the call reads it: transposed, the shared key's columns repeated, then zeros up to the tile's end. -/
def weightArr (w : FVec Ideal S4096x25664 .f32) : FVec Ideal S9728x4096 .f32 :=
  concatenate S9728x4096 0 [
    ⟨S1600x4096, extractStridedSlice S1600x4096 ![0, 0] (transpose S25664x4096 [1, 0] w transposes_S4096x25664_S25664x4096_1_0) slices_S25664x4096_S1600x4096_0_0⟩,
    ⟨S32x4096, extractStridedSlice S32x4096 ![1568, 0] (transpose S25664x4096 [1, 0] w transposes_S4096x25664_S25664x4096_1_0) slices_S25664x4096_S32x4096_1568_0⟩,
    ⟨S32x4096, extractStridedSlice S32x4096 ![1536, 0] (transpose S25664x4096 [1, 0] w transposes_S4096x25664_S25664x4096_1_0) slices_S25664x4096_S32x4096_1536_0⟩,
    ⟨S384x4096, zeros S384x4096 bcast_S_S384x4096⟩,
    ⟨S7680x4096, extractStridedSlice S7680x4096 ![1600, 0] (transpose S25664x4096 [1, 0] w transposes_S4096x25664_S25664x4096_1_0) slices_S25664x4096_S7680x4096_1600_0⟩]
    concatenates_S1600x4096_S32x4096_S32x4096_S384x4096_S7680x4096_S9728x4096_d0

variable (m : (ℓ : Loc nD τ sig) → Buf (Elt Ideal) ℓ) (ρ : Dev nD → PrngReg)

/-- What the host leaves in the flag's row. -/
theorem V_flag (c : Dev nD) : V m c main_v61 = (shapeCast S1x9728 flagArr shapeCasts_S9728_S1x9728 : FVec Ideal S1x9728 .f32) := by
  dsimp only [V, hostOps0]
  after_results_simp <;> (try dsimp only [Matrix.cons_val]) <;> (try after_results_simp) <;> rfl

/-- What the host leaves in the gain's row. -/
theorem V_gain (c : Dev nD) : V m c main_v60 = (shapeCast S1x9728 (gainArr (m ((c : Thread nD τ).loc main_arg2)) (m ((c : Thread nD τ).loc main_arg3)) (m ((c : Thread nD τ).loc main_arg4))) shapeCasts_S9728_S1x9728 : FVec Ideal S1x9728 .f32) := by
  dsimp only [V, hostOps0]
  after_results_simp <;> (try dsimp only [Matrix.cons_val]) <;> (try after_results_simp) <;> rfl

/-- What the host leaves in the weight. -/
theorem V_w (c : Dev nD) : V m c main_v59 = (truncf .bf16 (weightArr (m ((c : Thread nD τ).loc main_arg1))) bitsLt_bf16_f32 : FVec Ideal S9728x4096 .bf16) := by
  dsimp only [V, hostOps0]
  after_results_simp <;> (try dsimp only [Matrix.cons_val]) <;> (try after_results_simp) <;> rfl

/-- What the host leaves in the table of tiles. -/
theorem V_t (c : Dev nD) : V m c main_c = (fun i => lit0 (S19.rowMajor i) : Vec Ideal S19 .i32) := by
  dsimp only [V, hostOps0]
  after_results_simp <;> (try dsimp only [Matrix.cons_val]) <;> (try after_results_simp) <;> rfl

end Cert.Kernel7Ideal.RefValue
end
-- ==== Proof.Mix7Cell.lean ====
module

public import proofs.«01_k».proof.Defs
public import proofs.«01_k».proof.Proof.Mix7Host
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen Cert.Kernel7Ideal.Mix

/-- A value of a group of 128 columns: where the flag is set it is divided by the group's root mean square, then it is multiplied by the gain. -/
def cell (p : Fin 128 → EReal) (d : Fin 128) (f g : EReal) : EReal :=
  p d * ((if 0 < f then Ideal.rsqrt (Ideal.div (∑ e : Fin 128, p e * p e) (Ideal.ofBits .f32 0x43000000#32) + Ideal.ofBits .f32 0x358637BD#32) else 1) * g)

/-- A column's group's columns. -/
def grp (j : Fin 9728) (d : Fin 128) : Fin 9728 := ⟨j.val / 128 * 128 + d.val, by omega⟩

/-- A column's place in its group. -/
def lane (j : Fin 9728) : Fin 128 := ⟨j.val % 128, Nat.mod_lt _ (by decide)⟩

/-- The mixing projection, element by element. -/
def mix (h : S16384x4096.Idx → EReal) (w : S4096x25664.Idx → EReal) (g2 g3 g4 : S2x128.Idx → EReal) : S16384x9728.Idx → EReal := fun i =>
  cell (fun d => ∑ k : Fin 4096, h (ix2 (i 0) k) * weightArr w (ix2 (grp (i 1) d) k : S9728x4096.Idx)) (lane (i 1))
    (flagArr (ix1 (i 1) : S9728.Idx)) (gainArr g2 g3 g4 (ix1 (i 1) : S9728.Idx))

/-- The first slab of a tile with normalised columns. -/
theorem first_apply (a : Vec Ideal S2048x4096 .bf16) (w : Vec Ideal S256x4096 .bf16) (f g : Vec Ideal S1x128 .f32) (i : S2048x128.Idx) :
    k0_pay6 a w f g i = cell (fun d => ∑ k : Fin 4096, a (ix2 (i 0) k) * w (ix2 (⟨d.val, by omega⟩ : Fin 256) k)) (i 1) (f (ix2 0 (i 1))) (g (ix2 0 (i 1))) := by
  unfold k0_pay6 k0_pay5 cell
  simp only [pointwise, zero_add, Matrix.cons_val, Matrix.cons_val_zero, Matrix.cons_val_one]
  rfl

/-- The third slab of a tile with normalised columns. -/
theorem third_apply (a : Vec Ideal S2048x4096 .bf16) (w : Vec Ideal S256x4096 .bf16) (f g : Vec Ideal S1x128 .f32) (i : S2048x128.Idx) :
    k0_pay1 (k0_pay11 a w) (k0_pay12 a w f) g i = cell (fun d => ∑ k : Fin 4096, a (ix2 (i 0) k) * w (ix2 (⟨d.val, by omega⟩ : Fin 256) k)) (i 1) (f (ix2 0 (i 1))) (g (ix2 0 (i 1))) := by
  unfold k0_pay1 k0_pay12 k0_pay11 k0_pay10 cell
  simp only [pointwise, zero_add, Matrix.cons_val, Matrix.cons_val_zero, Matrix.cons_val_one]
  rfl

/-- The second slab of a tile with normalised columns. -/
theorem second_apply (a : Vec Ideal S2048x4096 .bf16) (w : Vec Ideal S256x4096 .bf16) (f g : Vec Ideal S1x128 .f32) (i : S2048x128.Idx) :
    k0_pay9 (k0_pay7 a w) (k0_pay8 a w) f g i = cell (fun d => ∑ k : Fin 4096, a (ix2 (i 0) k) * w (ix2 (⟨128 + d.val, by omega⟩ : Fin 256) k)) (i 1) (f (ix2 0 (i 1))) (g (ix2 0 (i 1))) := by
  unfold k0_pay9 k0_pay8 k0_pay7 k0_pay5 cell
  simp only [pointwise, zero_add, Matrix.cons_val, Matrix.cons_val_zero, Matrix.cons_val_one]
  rfl

/-- The fourth slab of a tile with normalised columns. -/
theorem fourth_apply (a : Vec Ideal S2048x4096 .bf16) (w : Vec Ideal S256x4096 .bf16) (f g : Vec Ideal S1x128 .f32) (i : S2048x128.Idx) :
    k0_pay2 (k0_pay10 a w) f g i = cell (fun d => ∑ k : Fin 4096, a (ix2 (i 0) k) * w (ix2 (⟨128 + d.val, by omega⟩ : Fin 256) k)) (i 1) (f (ix2 0 (i 1))) (g (ix2 0 (i 1))) := by
  unfold k0_pay2 k0_pay10 cell
  simp only [pointwise, zero_add, Matrix.cons_val, Matrix.cons_val_zero, Matrix.cons_val_one]
  rfl

/-- The first half of a tile without normalised columns. -/
theorem plain0_apply (a : Vec Ideal S2048x4096 .bf16) (w : Vec Ideal S256x4096 .bf16) (g : Vec Ideal S1x256 .f32) (i : S2048x256.Idx) :
    k0_pay3 a w g i = (∑ k : Fin 4096, a (ix2 (i 0) k) * w (ix2 (i 1) k)) * g (ix2 0 (i 1)) := by
  unfold k0_pay3
  simp only [pointwise, zero_add]
  rfl

/-- The second half of a tile without normalised columns. -/
theorem plain1_apply (a : Vec Ideal S2048x4096 .bf16) (w : Vec Ideal S256x4096 .bf16) (g : Vec Ideal S1x256 .f32) (i : S2048x256.Idx) :
    k0_pay4 a w g i = (∑ k : Fin 4096, a (ix2 (i 0) k) * w (ix2 (i 1) k)) * g (ix2 0 (i 1)) := by
  unfold k0_pay4
  simp only [pointwise, zero_add]
  rfl

variable (m : (ℓ : Loc nD τ sig) → Buf (Elt Ideal) ℓ) (ρ : Dev nD → PrngReg)

/-- The table's block. -/
theorem idx0 : ∀ t : Fin cfg0.N, win0_0.index t = ![0] :=
  (by decide +kernel : ∀ t : Fin grid0.N, win0_0.index t = ![0])
/-- The activations' block. -/
theorem idx1 : ∀ t : Fin cfg0.N, win0_1.index t = ![(grid0.coords t 0).val, 0] :=
  (by decide +kernel : ∀ t : Fin grid0.N, win0_1.index t = ![(grid0.coords t 0).val, 0])
/-- The weight's block. -/
theorem idx2 : ∀ t : Fin cfg0.N, win0_2.index t = ![(grid0.coords t 1).val, 0] :=
  (by decide +kernel : ∀ t : Fin grid0.N, win0_2.index t = ![(grid0.coords t 1).val, 0])
/-- The gain's block. -/
theorem idx3 : ∀ t : Fin cfg0.N, win0_3.index t = ![0, (grid0.coords t 1).val] :=
  (by decide +kernel : ∀ t : Fin grid0.N, win0_3.index t = ![0, (grid0.coords t 1).val])
/-- The flag's block. -/
theorem idx4 : ∀ t : Fin cfg0.N, win0_4.index t = ![0, (grid0.coords t 1).val] :=
  (by decide +kernel : ∀ t : Fin grid0.N, win0_4.index t = ![0, (grid0.coords t 1).val])
/-- The output's block. -/
theorem idx5 : ∀ t : Fin cfg0.N, win0_5.index t = ![(grid0.coords t 0).val, (grid0.coords t 1).val] :=
  (by decide +kernel : ∀ t : Fin grid0.N, win0_5.index t = ![(grid0.coords t 0).val, (grid0.coords t 1).val])

/-- The table's block is the whole table. -/
theorem blk0 (c : Dev nD) (t : Fin cfg0.N) : iblk m c 0 t = (fun i => lit0 (S19.rowMajor i) : Vec Ideal S19 .i32) := by
  funext j
  blk_simp [iblk]
  show V m c main_c _ = _
  rw [V_t]
  exact congrArg (fun i : S19.Idx => lit0 (S19.rowMajor i)) (by blk_ext [idx0])

/-- The activations' block, read at an index. -/
theorem blk1 (c : Dev nD) (t : Fin cfg0.N) (j : S2048x4096.Idx) (i : S16384x4096.Idx)
    (h0 : (i 0).val = (grid0.coords t 0).val * 2048 + (j 0).val) (h1 : (i 1).val = (j 1).val) :
    iblk m c 1 t j = m ((c : Thread nD τ).loc main_arg0) i := by
  blk_simp [iblk]
  show V m c main_arg0 _ = _
  rw [V_main_arg0]
  exact congrArg _ (by blk_ext [idx1])

/-- The weight's block, read at an index. -/
theorem blk2 (c : Dev nD) (t : Fin cfg0.N) (j : S512x4096.Idx) (i : S9728x4096.Idx)
    (h0 : (i 0).val = (grid0.coords t 1).val * 512 + (j 0).val) (h1 : (i 1).val = (j 1).val) :
    iblk m c 2 t j = weightArr (m ((c : Thread nD τ).loc main_arg1)) i := by
  blk_simp [iblk]
  show V m c main_v59 _ = _
  rw [V_w]
  exact congrArg (weightArr _) (by blk_ext [idx2])

/-- A vector laid out as one row. -/
theorem row_apply (x : S9728.Idx → EReal) (h) (i : S1x9728.Idx) : shapeCast S1x9728 x h i = x (ix1 (i 1) : S9728.Idx) := by
  simp only [pointwise]

/-- The gain's block, read at an index. -/
theorem blk3 (c : Dev nD) (t : Fin cfg0.N) (j : S1x512.Idx) (i : S9728.Idx)
    (h1 : (i 0).val = (grid0.coords t 1).val * 512 + (j 1).val) :
    iblk m c 3 t j = gainArr (m ((c : Thread nD τ).loc main_arg2)) (m ((c : Thread nD τ).loc main_arg3)) (m ((c : Thread nD τ).loc main_arg4)) i := by
  blk_simp [iblk]
  show V m c main_v60 _ = _
  rw [V_gain, row_apply]
  exact congrArg (gainArr _ _ _) (by blk_ext [idx3])

/-- The flag's block, read at an index. -/
theorem blk4 (c : Dev nD) (t : Fin cfg0.N) (j : S1x512.Idx) (i : S9728.Idx)
    (h1 : (i 0).val = (grid0.coords t 1).val * 512 + (j 1).val) :
    iblk m c 4 t j = flagArr i := by
  blk_simp [iblk]
  show V m c main_v61 _ = _
  rw [V_flag, row_apply]
  exact congrArg flagArr (by blk_ext [idx4])

/-- Every tile is marked in the table or is one of those without a normalised column. -/
theorem tiles : ∀ t : Fin grid0.N, Normed (F := Ideal) (fun i => lit0 (S19.rowMajor i)) (grid0.coords t)
    ∨ (grid0.coords t 1).val < 4 ∨ (grid0.coords t 1).val = 8 ∨ (grid0.coords t 1).val = 9 ∨ 17 ≤ (grid0.coords t 1).val := by
  decide +kernel

/-- The table of flags, by groups of 128. -/
theorem flag_table : ∀ (a : Fin 76) (b : Fin 128), lit1t (a.val * 128 + b.val) = if a.val < 16 then 0x00000000#32 else if a.val < 32 then 0x3F800000#32
    else if a.val < 40 then 0x00000000#32 else if a.val < 50 then 0x3F800000#32 else if a.val < 52 then 0x00000000#32
    else if a.val < 68 then 0x3F800000#32 else 0x00000000#32 := by
  decide +kernel

/-- The flag's segments. -/
theorem flag_read (i : S9728.Idx) : flagArr i = if (i 0).val < 2048 then 0 else if (i 0).val < 4096 then 1 else if (i 0).val < 5120 then 0
    else if (i 0).val < 6400 then 1 else if (i 0).val < 6656 then 0 else if (i 0).val < 8704 then 1 else 0 := by
  have hi : (i 0).val < 9728 := (i 0).isLt
  have e : (S9728.rowMajor i).val = (⟨(i 0).val / 128, by omega⟩ : Fin 76).val * 128 + (⟨(i 0).val % 128, Nat.mod_lt _ (by decide)⟩ : Fin 128).val := by
    rw [Shape.rowMajor_val_one]
    show (i 0).val = (i 0).val / 128 * 128 + (i 0).val % 128
    omega
  have t : lit1 (S9728.rowMajor i) = _ := (congrArg lit1t e).trans (flag_table _ _)
  unfold flagArr
  rw [t]
  dsimp only
  split_ifs <;> first | (exfalso; omega) | simp only [pointwise]

end Cert.Kernel7Ideal.RefValue
end
-- ==== Proof.Mix7Kernel.lean ====
module

public import proofs.«01_k».proof.Defs
public import proofs.«01_k».proof.Proof.Mix7Cell
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen Cert.Kernel7Ideal.Mix

/-- Equal parts give an equal entry. -/
theorem cell_congr {p p' : Fin 128 → EReal} {d d' : Fin 128} {f f' g g' : EReal} (hp : ∀ e, p e = p' e) (hd : d = d') (hf : f = f') (hg : g = g') :
    cell p d f g = cell p' d' f' g' := by
  subst hd hf hg; rw [funext hp]

/-- Where the flag is not set a cell is the product times the gain. -/
theorem cell_zero (p : Fin 128 → EReal) (d : Fin 128) (g : EReal) : cell p d 0 g = p d * g := by
  unfold cell; rw [if_neg (lt_irrefl _), one_mul]

/-- In a tile without normalised columns no column is flagged. -/
theorem flag_zero (q : ℕ) (hT : q < 4 ∨ q = 8 ∨ q = 9 ∨ 17 ≤ q) (j : Fin 9728) (h0 : q * 512 ≤ j.val) (h1 : j.val < q * 512 + 512) :
    flagArr (ix1 j : S9728.Idx) = 0 := by
  rw [flag_read]
  show (if j.val < 2048 then (0 : EReal) else if j.val < 4096 then 1 else if j.val < 5120 then 0
    else if j.val < 6400 then 1 else if j.val < 6656 then 0 else if j.val < 8704 then 1 else 0) = 0
  split_ifs <;> first | rfl | omega

variable (m : (ℓ : Loc nD τ sig) → Buf (Elt Ideal) ℓ) (ρ : Dev nD → PrngReg)

set_option maxHeartbeats 1000000 in
/-- What the kernel's run leaves in its output array. -/
theorem final (c : Dev nD) : (dats m 0 c).arrAt 5 cfg0.N
    = mix (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5, blk0]
  unfold out0_5
  suffices H : ∀ I : S16384x9728.Idx, (I 0).val = (grid0.coords t 0).val * 2048 + (y 0).val → (I 1).val = (grid0.coords t 1).val * 512 + (y 1).val →
      (if Normed (F := Ideal) (fun i => lit0 (S19.rowMajor i)) (grid0.coords t)
        then outN (iblk m c 1 t) (iblk m c 2 t) (iblk m c 3 t) (iblk m c 4 t)
        else outP (iblk m c 1 t) (iblk m c 2 t) (iblk m c 3 t)) y
      = mix (m ((c : Thread nD τ).loc main_arg0)) (m ((c : Thread nD τ).loc main_arg1)) (m ((c : Thread nD τ).loc main_arg2))
        (m ((c : Thread nD τ).loc main_arg3)) (m ((c : Thread nD τ).loc main_arg4)) I from
    H _ (by blk_simp [idx5]) (by blk_simp [idx5])
  intro I I0 I1
  by_cases hN : Normed (F := Ideal) (fun i => lit0 (S19.rowMajor i)) (grid0.coords t)
  · rw [if_pos hN]
    unfold outN
    canon_tiles y h
    · refine (fourth_apply _ _ _ _ _).trans ?_
      unfold mix
      refine cell_congr (fun e => Finset.sum_congr rfl fun k _ => congrArg₂ (· * ·) (blk1 m c t _ _ ?_ ?_) (blk2 m c t _ _ ?_ ?_)) (Fin.ext ?_)
        (blk4 m c t _ _ ?_) (blk3 m c t _ _ ?_)
      all_goals try simp only [grp, lane]
      all_goals try blk_simp [Rect.idx_unit_val]
      all_goals try simp only [Fin.val_mk]
      all_goals omega
    · refine (third_apply _ _ _ _ _).trans ?_
      unfold mix
      refine cell_congr (fun e => Finset.sum_congr rfl fun k _ => congrArg₂ (· * ·) (blk1 m c t _ _ ?_ ?_) (blk2 m c t _ _ ?_ ?_)) (Fin.ext ?_)
        (blk4 m c t _ _ ?_) (blk3 m c t _ _ ?_)
      all_goals try simp only [grp, lane]
      all_goals try blk_simp [Rect.idx_unit_val]
      all_goals try simp only [Fin.val_mk]
      all_goals omega
    · refine (second_apply _ _ _ _ _).trans ?_
      unfold mix
      refine cell_congr (fun e => Finset.sum_congr rfl fun k _ => congrArg₂ (· * ·) (blk1 m c t _ _ ?_ ?_) (blk2 m c t _ _ ?_ ?_)) (Fin.ext ?_)
        (blk4 m c t _ _ ?_) (blk3 m c t _ _ ?_)
      all_goals try simp only [grp, lane]
      all_goals try blk_simp [Rect.idx_unit_val]
      all_goals try simp only [Fin.val_mk]
      all_goals omega
    · refine (first_apply _ _ _ _ _).trans ?_
      unfold mix
      refine cell_congr (fun e => Finset.sum_congr rfl fun k _ => congrArg₂ (· * ·) (blk1 m c t _ _ ?_ ?_) (blk2 m c t _ _ ?_ ?_)) (Fin.ext ?_)
        (blk4 m c t _ _ ?_) (blk3 m c t _ _ ?_)
      all_goals try simp only [grp, lane]
      all_goals try blk_simp [Rect.idx_unit_val]
      all_goals try simp only [Fin.val_mk]
      all_goals omega
  · rw [if_neg hN]
    unfold outP
    have hT := (tiles t).resolve_left hN
    canon_tiles y h
    · refine (plain1_apply _ _ _ _).trans (Eq.symm ?_)
      unfold mix
      rw [flag_zero _ hT (I 1) (by omega) (by omega), cell_zero]
      refine congrArg₂ (· * ·) (Finset.sum_congr rfl fun k _ => congrArg₂ (· * ·) (blk1 m c t _ _ ?_ ?_).symm (blk2 m c t _ _ ?_ ?_).symm)
        (blk3 m c t _ _ ?_).symm
      all_goals try simp only [grp, lane]
      all_goals try blk_simp [Rect.idx_unit_val]
      all_goals try simp only [Fin.val_mk]
      all_goals omega
    · refine (plain0_apply _ _ _ _).trans (Eq.symm ?_)
      unfold mix
      rw [flag_zero _ hT (I 1) (by omega) (by omega), cell_zero]
      refine congrArg₂ (· * ·) (Finset.sum_congr rfl fun k _ => congrArg₂ (· * ·) (blk1 m c t _ _ ?_ ?_).symm (blk2 m c t _ _ ?_ ?_).symm)
        (blk3 m c t _ _ ?_).symm
      all_goals try simp only [grp, lane]
      all_goals try blk_simp [Rect.idx_unit_val]
      all_goals try simp only [Fin.val_mk]
      all_goals omega

/-- The kernel's run: its result is the mixing projection of the arguments, which it leaves unchanged. -/
theorem run : θ_run defs (onTc (τ := τ) (main (F := Ideal))) ⟨m, fun _ => 0, ρ⟩ fun r => ∀ c : Dev nD,
      r.2.mem ((c : Thread nD τ).loc main_v62)
        = mix (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Mix.run_blocks m ρ)

end Cert.Kernel7Ideal.RefValue
end
-- ==== Proof.Mix7Reads.lean ====
module

public import proofs.«01_k».proof.Defs
public import proofs.«01_k».proof.Proof.Mix7Kernel
public import Idealize.ShloMosaic.Lib.Routing.OpsSet
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen Cert.Kernel7Ideal.Mix

/-- An entry of the ones. -/
theorem ones_read (s : Shape) (h) (i : s.Idx) : ones s h i = 1 := by
  unfold ones
  simp only [pointwise]

/-- An entry of the zeros. -/
theorem zeros_read (s : Shape) (h) (i : s.Idx) : zeros s h i = 0 := by
  unfold zeros
  simp only [pointwise]

/-- An entry of the queries' repeated gain. -/
theorem tiled0_read (x : FVec Ideal S2x128 .f32) (i : S1024.Idx) :
    tiled0 x i = x (ix2 0 ⟨(i 0).val % 128, Nat.mod_lt _ (by decide)⟩ : S2x128.Idx) := tile8 0 (by decide) x _ _ _ _ _ i
/-- An entry of the keys' repeated gain. -/
theorem tiled1_read (x : FVec Ideal S2x128 .f32) (i : S1024.Idx) :
    tiled1 x i = x (ix2 1 ⟨(i 0).val % 128, Nat.mod_lt _ (by decide)⟩ : S2x128.Idx) := tile8 1 (by decide) x _ _ _ _ _ i
/-- An entry of the keys' gain repeated twice. -/
theorem short1_read (x : FVec Ideal S2x128 .f32) (i : S256.Idx) :
    short1 x i = x (ix2 1 ⟨(i 0).val % 128, Nat.mod_lt _ (by decide)⟩ : S2x128.Idx) := tile2 1 (by decide) x _ _ _ _ _ i

/-- The scale's one entry. -/
theorem lnScale_read (i : S_.Idx) : lnScale i = Ideal.sqrt (Ideal.ofBits .f32 0x43000000#32) * Ideal.log (Ideal.ofBits .f32 0x40000000#32) := by
  unfold lnScale
  simp only [pointwise]

/-- An entry of a row of gains over the scale. -/
theorem over_read (x : FVec Ideal S2x128 .f32) (i : S1024.Idx) :
    over (tiled0 x) i = Ideal.div (x (ix2 0 ⟨(i 0).val % 128, Nat.mod_lt _ (by decide)⟩ : S2x128.Idx))
      (Ideal.sqrt (Ideal.ofBits .f32 0x43000000#32) * Ideal.log (Ideal.ofBits .f32 0x40000000#32)) := by
  unfold over
  simp only [pointwise, lnScale_read, tiled0_read]

/-- Where an update of the row lands: at its own column past the first. -/
theorem lands {U : ℕ} (d : ScatterDims (Routing.shape1 9728) (Routing.shape1 1) (Routing.shape1 U)) (hiw : d.insertedWindowDims = []) (hsd : d.scatterDimsToOperandDims = [0])
    (idx : IVec (Routing.shape1 1) 32) (b : ℕ) (hb : ∀ i, (idx i).toInt = b) (k : (Routing.shape1 U).Idx) (j : Fin 9728) :
    d.resultIdx? k idx = some (ix1 j) ↔ b + (k 0).val = j.val := by
  have hwin : d.window k 0 = (k 0).val := by
    have hk : d.sKept = [0] := by
      show (Routing.shape1 9728).kept d.insertedWindowDims = _
      rw [hiw]
      rfl
    unfold ScatterDims.window
    rw [dif_pos (by rw [hk]; simp)]
    exact congrArg (fun t => (k t).val) (Subsingleton.elim (α := Fin 1) _ 0)
  have hst : d.start k idx 0 = b := by
    unfold ScatterDims.start
    rw [dif_pos (by rw [hsd]; simp), hb]
  have e : (ix1 j : (Routing.shape1 9728).Idx) = ValueIdx.ix1 j := funext fun a => match a with | ⟨0, _⟩ => rfl
  rw [e, Routing.resultIdx?_ix1, hst, hwin]
  omega

/-- A replaced column. -/
theorem put_hit (b : ℕ) (hb : (BitVec.ofNat 32 b).toInt = b) (x : FVec Ideal S9728 .f32) (u : FVec Ideal S1024 .f32) (j : Fin 9728) (h0 : b ≤ j.val) (h1 : j.val < b + 1024) :
    put (BitVec.ofNat 32 b) x u (ix1 j : S9728.Idx) = u (ix1 (⟨j.val - b, by omega⟩ : Fin 1024) : S1024.Idx) := by
  have L := lands (U := 1024) scatter_S9728_S1_S1024_0_n_0_0 rfl rfl (broadcastInDim S1 ![] bcast_S_S1 (constantI S_ 32 (BitVec.ofNat 32 b))) b (fun _ => hb)
  refine Routing.scatter_set_hit _ _ _ _ _ _ (fun k hk => ?_) (ix1 (⟨j.val - b, by omega⟩ : Fin 1024)) ((L _ j).2 (by show b + (j.val - b) = j.val; omega))
  have q := (L k j).1 hk
  refine congrArg u ?_
  rw [eq_ix1 k]
  exact congrArg ix1 (Fin.ext (by show (k 0).val = j.val - b; omega))

/-- A column that is left. -/
theorem put_miss (b : ℕ) (hb : (BitVec.ofNat 32 b).toInt = b) (x : FVec Ideal S9728 .f32) (u : FVec Ideal S1024 .f32) (j : Fin 9728) (h : j.val < b ∨ b + 1024 ≤ j.val) :
    put (BitVec.ofNat 32 b) x u (ix1 j : S9728.Idx) = x (ix1 j) := by
  have L := lands (U := 1024) scatter_S9728_S1_S1024_0_n_0_0 rfl rfl (broadcastInDim S1 ![] bcast_S_S1 (constantI S_ 32 (BitVec.ofNat 32 b))) b (fun _ => hb)
  refine Routing.scatter_set_miss _ _ _ _ _ fun k hk => ?_
  have q := (L k j).1 hk
  have hk : (k 0).val < 1024 := (k 0).isLt
  omega

/-- A replaced column. -/
theorem putShort_hit (b : ℕ) (hb : (BitVec.ofNat 32 b).toInt = b) (x : FVec Ideal S9728 .f32) (u : FVec Ideal S256 .f32) (j : Fin 9728) (h0 : b ≤ j.val) (h1 : j.val < b + 256) :
    putShort (BitVec.ofNat 32 b) x u (ix1 j : S9728.Idx) = u (ix1 (⟨j.val - b, by omega⟩ : Fin 256) : S256.Idx) := by
  have L := lands (U := 256) scatter_S9728_S1_S256_0_n_0_0 rfl rfl (broadcastInDim S1 ![] bcast_S_S1 (constantI S_ 32 (BitVec.ofNat 32 b))) b (fun _ => hb)
  refine Routing.scatter_set_hit _ _ _ _ _ _ (fun k hk => ?_) (ix1 (⟨j.val - b, by omega⟩ : Fin 256)) ((L _ j).2 (by show b + (j.val - b) = j.val; omega))
  have q := (L k j).1 hk
  refine congrArg u ?_
  rw [eq_ix1 k]
  exact congrArg ix1 (Fin.ext (by show (k 0).val = j.val - b; omega))

/-- A column that is left. -/
theorem putShort_miss (b : ℕ) (hb : (BitVec.ofNat 32 b).toInt = b) (x : FVec Ideal S9728 .f32) (u : FVec Ideal S256 .f32) (j : Fin 9728) (h : j.val < b ∨ b + 256 ≤ j.val) :
    putShort (BitVec.ofNat 32 b) x u (ix1 j : S9728.Idx) = x (ix1 j) := by
  have L := lands (U := 256) scatter_S9728_S1_S256_0_n_0_0 rfl rfl (broadcastInDim S1 ![] bcast_S_S1 (constantI S_ 32 (BitVec.ofNat 32 b))) b (fun _ => hb)
  refine Routing.scatter_set_miss _ _ _ _ _ fun k hk => ?_
  have q := (L k j).1 hk
  have hk : (k 0).val < 256 := (k 0).isLt
  omega

section
/-- The scale of the normalised queries. -/
abbrev scale : EReal := Ideal.sqrt (Ideal.ofBits .f32 0x43000000#32) * Ideal.log (Ideal.ofBits .f32 0x40000000#32)

variable (g2 g3 g4 : FVec Ideal S2x128 .f32) (j : Fin 9728)

/-- The gain, segment 1 of ten. -/
theorem gain_0 (h0 : 0 ≤ j.val) (h1 : j.val < 2048) : gainArr g2 g3 g4 (ix1 j : S9728.Idx) = 1 := by
  unfold gainArr
  rw [putShort_miss 6144 (by decide) _ _ j (by omega),
    put_miss 5120 (by decide) _ _ j (by omega),
    put_miss 7680 (by decide) _ _ j (by omega),
    put_miss 6656 (by decide) _ _ j (by omega),
    put_miss 3072 (by decide) _ _ j (by omega),
    put_miss 2048 (by decide) _ _ j (by omega),
    ones_read]

/-- The gain, segment 2 of ten. -/
theorem gain_1 (h0 : 2048 ≤ j.val) (h1 : j.val < 3072) : gainArr g2 g3 g4 (ix1 j : S9728.Idx) = Ideal.div (g2 (ix2 0 (lane j) : S2x128.Idx)) scale := by
  unfold gainArr
  rw [putShort_miss 6144 (by decide) _ _ j (by omega),
    put_miss 5120 (by decide) _ _ j (by omega),
    put_miss 7680 (by decide) _ _ j (by omega),
    put_miss 6656 (by decide) _ _ j (by omega),
    put_miss 3072 (by decide) _ _ j (by omega),
    put_hit 2048 (by decide) _ _ j (by omega) (by omega)]
  exact (over_read _ _).trans (congrArg (fun l : Fin 128 => Ideal.div (g2 (ix2 0 l : S2x128.Idx)) scale) (Fin.ext (by show (j.val - 2048) % 128 = j.val % 128; omega)))

/-- The gain, segment 3 of ten. -/
theorem gain_2 (h0 : 3072 ≤ j.val) (h1 : j.val < 4096) : gainArr g2 g3 g4 (ix1 j : S9728.Idx) = g2 (ix2 1 (lane j) : S2x128.Idx) := by
  unfold gainArr
  rw [putShort_miss 6144 (by decide) _ _ j (by omega),
    put_miss 5120 (by decide) _ _ j (by omega),
    put_miss 7680 (by decide) _ _ j (by omega),
    put_miss 6656 (by decide) _ _ j (by omega),
    put_hit 3072 (by decide) _ _ j (by omega) (by omega)]
  exact (tiled1_read _ _).trans (congrArg (fun l : Fin 128 => g2 (ix2 1 l : S2x128.Idx)) (Fin.ext (by show (j.val - 3072) % 128 = j.val % 128; omega)))

/-- The gain, segment 4 of ten. -/
theorem gain_3 (h0 : 4096 ≤ j.val) (h1 : j.val < 5120) : gainArr g2 g3 g4 (ix1 j : S9728.Idx) = 1 := by
  unfold gainArr
  rw [putShort_miss 6144 (by decide) _ _ j (by omega),
    put_miss 5120 (by decide) _ _ j (by omega),
    put_miss 7680 (by decide) _ _ j (by omega),
    put_miss 6656 (by decide) _ _ j (by omega),
    put_miss 3072 (by decide) _ _ j (by omega),
    put_miss 2048 (by decide) _ _ j (by omega),
    ones_read]

/-- The gain, segment 5 of ten. -/
theorem gain_4 (h0 : 5120 ≤ j.val) (h1 : j.val < 6144) : gainArr g2 g3 g4 (ix1 j : S9728.Idx) = Ideal.div (g3 (ix2 0 (lane j) : S2x128.Idx)) scale := by
  unfold gainArr
  rw [putShort_miss 6144 (by decide) _ _ j (by omega),
    put_hit 5120 (by decide) _ _ j (by omega) (by omega)]
  exact (over_read _ _).trans (congrArg (fun l : Fin 128 => Ideal.div (g3 (ix2 0 l : S2x128.Idx)) scale) (Fin.ext (by show (j.val - 5120) % 128 = j.val % 128; omega)))

/-- The gain, segment 6 of ten. -/
theorem gain_5 (h0 : 6144 ≤ j.val) (h1 : j.val < 6400) : gainArr g2 g3 g4 (ix1 j : S9728.Idx) = g3 (ix2 1 (lane j) : S2x128.Idx) := by
  unfold gainArr
  rw [putShort_hit 6144 (by decide) _ _ j (by omega) (by omega)]
  exact (short1_read _ _).trans (congrArg (fun l : Fin 128 => g3 (ix2 1 l : S2x128.Idx)) (Fin.ext (by show (j.val - 6144) % 128 = j.val % 128; omega)))

/-- The gain, segment 7 of ten. -/
theorem gain_6 (h0 : 6400 ≤ j.val) (h1 : j.val < 6656) : gainArr g2 g3 g4 (ix1 j : S9728.Idx) = 1 := by
  unfold gainArr
  rw [putShort_miss 6144 (by decide) _ _ j (by omega),
    put_miss 5120 (by decide) _ _ j (by omega),
    put_miss 7680 (by decide) _ _ j (by omega),
    put_miss 6656 (by decide) _ _ j (by omega),
    put_miss 3072 (by decide) _ _ j (by omega),
    put_miss 2048 (by decide) _ _ j (by omega),
    ones_read]

/-- The gain, segment 8 of ten. -/
theorem gain_7 (h0 : 6656 ≤ j.val) (h1 : j.val < 7680) : gainArr g2 g3 g4 (ix1 j : S9728.Idx) = Ideal.div (g4 (ix2 0 (lane j) : S2x128.Idx)) scale := by
  unfold gainArr
  rw [putShort_miss 6144 (by decide) _ _ j (by omega),
    put_miss 5120 (by decide) _ _ j (by omega),
    put_miss 7680 (by decide) _ _ j (by omega),
    put_hit 6656 (by decide) _ _ j (by omega) (by omega)]
  exact (over_read _ _).trans (congrArg (fun l : Fin 128 => Ideal.div (g4 (ix2 0 l : S2x128.Idx)) scale) (Fin.ext (by show (j.val - 6656) % 128 = j.val % 128; omega)))

/-- The gain, segment 9 of ten. -/
theorem gain_8 (h0 : 7680 ≤ j.val) (h1 : j.val < 8704) : gainArr g2 g3 g4 (ix1 j : S9728.Idx) = g4 (ix2 1 (lane j) : S2x128.Idx) := by
  unfold gainArr
  rw [putShort_miss 6144 (by decide) _ _ j (by omega),
    put_miss 5120 (by decide) _ _ j (by omega),
    put_hit 7680 (by decide) _ _ j (by omega) (by omega)]
  exact (tiled1_read _ _).trans (congrArg (fun l : Fin 128 => g4 (ix2 1 l : S2x128.Idx)) (Fin.ext (by show (j.val - 7680) % 128 = j.val % 128; omega)))

/-- The gain, segment 10 of ten. -/
theorem gain_9 (h0 : 8704 ≤ j.val) (h1 : j.val < 9728) : gainArr g2 g3 g4 (ix1 j : S9728.Idx) = 1 := by
  unfold gainArr
  rw [putShort_miss 6144 (by decide) _ _ j (by omega),
    put_miss 5120 (by decide) _ _ j (by omega),
    put_miss 7680 (by decide) _ _ j (by omega),
    put_miss 6656 (by decide) _ _ j (by omega),
    put_miss 3072 (by decide) _ _ j (by omega),
    put_miss 2048 (by decide) _ _ j (by omega),
    ones_read]

end

/-- The column of the weight that each row of the packed weight holds. -/
theorem w_of (w : S4096x25664.Idx → EReal) (j : Fin 9728) (k : Fin 4096) (n : Fin 25664)
    (h : (j.val < 1600 ∧ n.val = j.val) ∨ (1600 ≤ j.val ∧ j.val < 1632 ∧ n.val + 32 = j.val) ∨ (1632 ≤ j.val ∧ j.val < 1664 ∧ n.val + 96 = j.val)
      ∨ (2048 ≤ j.val ∧ n.val + 448 = j.val)) : weightArr w (ix2 j k : S9728x4096.Idx) = w (ix2 k n) := by
  unfold weightArr zeros
  simp only [pointwise, Matrix.cons_val, Matrix.cons_val_zero, Matrix.cons_val_one, Matrix.cons_val_fin_one]
  have e : ((ix2 j k : S9728x4096.Idx) 0).val = j.val := rfl
  split_ifs <;> first
    | (exfalso; omega)
    | (refine congrArg w (congrArg₂ ix2 (Fin.ext ?_) (Fin.ext ?_)) <;> simp <;> omega)

/-- The rows of the packed weight that are zero. -/
theorem w_zero (w : S4096x25664.Idx → EReal) (j : Fin 9728) (k : Fin 4096) (h0 : 1664 ≤ j.val) (h1 : j.val < 2048) :
    weightArr w (ix2 j k : S9728x4096.Idx) = 0 := by
  unfold weightArr zeros
  simp only [pointwise, Matrix.cons_val, Matrix.cons_val_zero, Matrix.cons_val_one, Matrix.cons_val_fin_one]
  have e : ((ix2 j k : S9728x4096.Idx) 0).val = j.val := rfl
  split_ifs <;> first | rfl | (exfalso; omega)

end Cert.Kernel7Ideal.RefValue
end
-- ==== Proof.Mix7Norms.lean ====
module

public import proofs.«01_k».proof.Defs
public import proofs.«01_k».proof.Proof.Gen.Reference7Ideal.Read
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference7Ideal.RefValue

open Cert.Reference7Ideal Cert.Reference7Ideal.Read

/-- A column of the hidden states' product with the input projection. -/
def prod (h : S16384x4096.Idx → EReal) (w : S4096x25664.Idx → EReal) (r : Fin 16384) (n : Fin 25664) : EReal :=
  ∑ k : Fin 4096, h (ix2 r k) * w (ix2 k n)

/-- A value of a group of 128 columns divided by the group's root mean square. -/
def norm (p : Fin 128 → EReal) (d : Fin 128) : EReal :=
  p d * Ideal.rsqrt (Ideal.div (∑ e : Fin 128, p e * p e) (Ideal.ofBits .f32 0x43000000#32) + Ideal.ofBits .f32 0x358637BD#32)

variable (x0 : (⟨S16384x4096, .bf16⟩ : BufTy).Contents (Elt Ideal)) (x1 : (⟨S4096x25664, .f32⟩ : BufTy).Contents (Elt Ideal))
  (x2 x3 x4 : (⟨S2x128, .f32⟩ : BufTy).Contents (Elt Ideal))

/-- An entry of the reference's product. -/
theorem v2_read (i : S16384x9280.Idx) (r : Fin 16384) (n : Fin 25664) (hr : (i 0).val = r.val) (hn : (i 1).val = n.val) :
    val_main_v2 (F := Ideal) x0 x1 i = prod x0 x1 r n := by
  rw [val_main_v2_apply]
  unfold prod
  refine Finset.sum_congr rfl fun k _ => ?_
  rw [val_main_v0_apply, val_main_v1_apply]
  refine congrArg₂ (· * ·) (congrArg x0 ?_) (congrArg x1 ?_)
  · funext a; match a with | ⟨0, _⟩ => exact Fin.ext hr | ⟨1, _⟩ => rfl
  · funext a; match a with | ⟨0, _⟩ => rfl | ⟨1, _⟩ => exact Fin.ext hn

/-- The reference's `dq` columns. -/
theorem dq_read (i : S16384x1024.Idx) (hi : (i 1).val < 1024) :
    val_main_v38 (F := Ideal) x0 x1 x2 i = Ideal.div (norm (fun e => prod x0 x1 (i 0) ⟨1600 + (i 1).val / 128 * 128 + e.val, by omega⟩)
      ⟨(i 1).val % 128, Nat.mod_lt _ (by decide)⟩ * x2 (ix2 0 ⟨(i 1).val % 128, Nat.mod_lt _ (by decide)⟩ : S2x128.Idx))
      (Ideal.sqrt (Ideal.ofBits .f32 0x43000000#32) * Ideal.log (Ideal.ofBits .f32 0x40000000#32)) := by
  have h0 : (i 0).val < 16384 := (i 0).isLt
  unfold norm
  simp only [val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v7_apply, val_main_v18_apply, val_main_v17_apply, val_main_v16_apply, val_main_cst_apply, val_main_cst_0_apply, val_main_cst_2_apply, val_main_cst_3_apply, val_main_cst_4_apply, pointwise, zero_add]
  refine congrArg₂ Ideal.div (congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x2 ?_)) rfl
  case refine_7 =>
    funext b
    match b with
    | ⟨0, _⟩ => rfl
    | ⟨1, _⟩ => exact Fin.ext (by dsimp only [idx_main_v20, idx_main_v21, idx_main_v33, idx_main_v34, idx_main_v36, ix2]; omega)
  all_goals dsimp only [idx_main_v7, idx_main_v20, idx_main_v21, idx_main_v22, idx_main_v24, idx_main_v25, idx_main_v31, idx_main_v33, idx_main_v34, idx_main_v36]
  all_goals omega

/-- The reference's `dk` columns. -/
theorem dk_read (i : S16384x1024.Idx) (hi : (i 1).val < 1024) :
    val_main_v55 (F := Ideal) x0 x1 x2 i = norm (fun e => prod x0 x1 (i 0) ⟨2624 + (i 1).val / 128 * 128 + e.val, by omega⟩)
      ⟨(i 1).val % 128, Nat.mod_lt _ (by decide)⟩ * x2 (ix2 1 ⟨(i 1).val % 128, Nat.mod_lt _ (by decide)⟩ : S2x128.Idx) := by
  have h0 : (i 0).val < 16384 := (i 0).isLt
  unfold norm
  simp only [val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v8_apply, val_main_cst_5_apply, val_main_cst_6_apply, val_main_cst_7_apply, pointwise, zero_add]
  refine congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x2 ?_)
  case refine_7 =>
    funext b
    match b with
    | ⟨0, _⟩ => rfl
    | ⟨1, _⟩ => exact Fin.ext (by dsimp only [idx_main_v39, idx_main_v40, idx_main_v52, idx_main_v53, idx_main_v55, ix2]; omega)
  all_goals dsimp only [idx_main_v8, idx_main_v39, idx_main_v40, idx_main_v41, idx_main_v43, idx_main_v44, idx_main_v50, idx_main_v52, idx_main_v53, idx_main_v55]
  all_goals omega

/-- The reference's `wq` columns. -/
theorem wq_read (i : S16384x1024.Idx) (hi : (i 1).val < 1024) :
    val_main_v74 (F := Ideal) x0 x1 x3 i = Ideal.div (norm (fun e => prod x0 x1 (i 0) ⟨4672 + (i 1).val / 128 * 128 + e.val, by omega⟩)
      ⟨(i 1).val % 128, Nat.mod_lt _ (by decide)⟩ * x3 (ix2 0 ⟨(i 1).val % 128, Nat.mod_lt _ (by decide)⟩ : S2x128.Idx))
      (Ideal.sqrt (Ideal.ofBits .f32 0x43000000#32) * Ideal.log (Ideal.ofBits .f32 0x40000000#32)) := by
  have h0 : (i 0).val < 16384 := (i 0).isLt
  unfold norm
  simp only [val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v10_apply, val_main_v18_apply, val_main_v17_apply, val_main_v16_apply, val_main_cst_apply, val_main_cst_0_apply, val_main_cst_8_apply, val_main_cst_9_apply, val_main_cst_10_apply, pointwise, zero_add]
  refine congrArg₂ Ideal.div (congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x3 ?_)) rfl
  case refine_7 =>
    funext b
    match b with
    | ⟨0, _⟩ => rfl
    | ⟨1, _⟩ => exact Fin.ext (by dsimp only [idx_main_v56, idx_main_v57, idx_main_v69, idx_main_v70, idx_main_v72, ix2]; omega)
  all_goals dsimp only [idx_main_v10, idx_main_v56, idx_main_v57, idx_main_v58, idx_main_v60, idx_main_v61, idx_main_v67, idx_main_v69, idx_main_v70, idx_main_v72]
  all_goals omega

/-- The reference's `wk` columns. -/
theorem wk_read (i : S16384x256.Idx) (hi : (i 1).val < 256) :
    val_main_v91 (F := Ideal) x0 x1 x3 i = norm (fun e => prod x0 x1 (i 0) ⟨5696 + (i 1).val / 128 * 128 + e.val, by omega⟩)
      ⟨(i 1).val % 128, Nat.mod_lt _ (by decide)⟩ * x3 (ix2 1 ⟨(i 1).val % 128, Nat.mod_lt _ (by decide)⟩ : S2x128.Idx) := by
  have h0 : (i 0).val < 16384 := (i 0).isLt
  unfold norm
  simp only [val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v11_apply, val_main_cst_11_apply, val_main_cst_12_apply, val_main_cst_13_apply, pointwise, zero_add]
  refine congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x3 ?_)
  case refine_7 =>
    funext b
    match b with
    | ⟨0, _⟩ => rfl
    | ⟨1, _⟩ => exact Fin.ext (by dsimp only [idx_main_v75, idx_main_v76, idx_main_v88, idx_main_v89, idx_main_v91, ix2]; omega)
  all_goals dsimp only [idx_main_v11, idx_main_v75, idx_main_v76, idx_main_v77, idx_main_v79, idx_main_v80, idx_main_v86, idx_main_v88, idx_main_v89, idx_main_v91]
  all_goals omega

/-- The reference's `fq` columns. -/
theorem fq_read (i : S16384x1024.Idx) (hi : (i 1).val < 1024) :
    val_main_v110 (F := Ideal) x0 x1 x4 i = Ideal.div (norm (fun e => prod x0 x1 (i 0) ⟨6208 + (i 1).val / 128 * 128 + e.val, by omega⟩)
      ⟨(i 1).val % 128, Nat.mod_lt _ (by decide)⟩ * x4 (ix2 0 ⟨(i 1).val % 128, Nat.mod_lt _ (by decide)⟩ : S2x128.Idx))
      (Ideal.sqrt (Ideal.ofBits .f32 0x43000000#32) * Ideal.log (Ideal.ofBits .f32 0x40000000#32)) := by
  have h0 : (i 0).val < 16384 := (i 0).isLt
  unfold norm
  simp only [val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v13_apply, val_main_v18_apply, val_main_v17_apply, val_main_v16_apply, val_main_cst_apply, val_main_cst_0_apply, val_main_cst_14_apply, val_main_cst_15_apply, val_main_cst_16_apply, pointwise, zero_add]
  refine congrArg₂ Ideal.div (congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x4 ?_)) rfl
  case refine_7 =>
    funext b
    match b with
    | ⟨0, _⟩ => rfl
    | ⟨1, _⟩ => exact Fin.ext (by dsimp only [idx_main_v92, idx_main_v93, idx_main_v105, idx_main_v106, idx_main_v108, ix2]; omega)
  all_goals dsimp only [idx_main_v13, idx_main_v92, idx_main_v93, idx_main_v94, idx_main_v96, idx_main_v97, idx_main_v103, idx_main_v105, idx_main_v106, idx_main_v108]
  all_goals omega

/-- The reference's `fk` columns. -/
theorem fk_read (i : S16384x1024.Idx) (hi : (i 1).val < 1024) :
    val_main_v127 (F := Ideal) x0 x1 x4 i = norm (fun e => prod x0 x1 (i 0) ⟨7232 + (i 1).val / 128 * 128 + e.val, by omega⟩)
      ⟨(i 1).val % 128, Nat.mod_lt _ (by decide)⟩ * x4 (ix2 1 ⟨(i 1).val % 128, Nat.mod_lt _ (by decide)⟩ : S2x128.Idx) := by
  have h0 : (i 0).val < 16384 := (i 0).isLt
  unfold norm
  simp only [val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v14_apply, val_main_cst_17_apply, val_main_cst_18_apply, val_main_cst_19_apply, pointwise, zero_add]
  refine congrArg₂ (· * ·) (congrArg₂ (· * ·) (v2_read _ _ _ _ _ ?_ ?_) (congrArg Ideal.rsqrt (congrArg (· + _) (congrArg (Ideal.div · _) (Finset.sum_congr rfl fun e _ => congrArg₂ (· * ·) (v2_read _ _ _ _ _ ?_ ?_) (v2_read _ _ _ _ _ ?_ ?_)))))) (congrArg x4 ?_)
  case refine_7 =>
    funext b
    match b with
    | ⟨0, _⟩ => rfl
    | ⟨1, _⟩ => exact Fin.ext (by dsimp only [idx_main_v111, idx_main_v112, idx_main_v124, idx_main_v125, idx_main_v127, ix2]; omega)
  all_goals dsimp only [idx_main_v14, idx_main_v111, idx_main_v112, idx_main_v113, idx_main_v115, idx_main_v116, idx_main_v122, idx_main_v124, idx_main_v125, idx_main_v127]
  all_goals omega

end Cert.Reference7Ideal.RefValue
end
-- ==== Proof.Mix7.lean ====
module

public import proofs.«01_k».proof.Defs
public import proofs.«01_k».proof.Proof.Mix7Reads
public import proofs.«01_k».proof.Proof.Mix7Norms
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen Cert.Kernel7Ideal.Mix
open Cert.Reference7Ideal.RefValue (prod norm)

/-- The columns without normalisation are not flagged. -/
theorem flag_off (j : Fin 9728) (h : j.val < 2048 ∨ (4096 ≤ j.val ∧ j.val < 5120) ∨ (6400 ≤ j.val ∧ j.val < 6656) ∨ 8704 ≤ j.val) :
    flagArr (ix1 j : S9728.Idx) = 0 := by
  rw [flag_read]
  show (if j.val < 2048 then (0 : EReal) else if j.val < 4096 then 1 else if j.val < 5120 then 0
    else if j.val < 6400 then 1 else if j.val < 6656 then 0 else if j.val < 8704 then 1 else 0) = 0
  split_ifs <;> first | rfl | (exfalso; omega)

/-- The normalised columns are flagged. -/
theorem flag_on (j : Fin 9728) (h : (2048 ≤ j.val ∧ j.val < 4096) ∨ (5120 ≤ j.val ∧ j.val < 6400) ∨ (6656 ≤ j.val ∧ j.val < 8704)) :
    flagArr (ix1 j : S9728.Idx) = 1 := by
  rw [flag_read]
  show (if j.val < 2048 then (0 : EReal) else if j.val < 4096 then 1 else if j.val < 5120 then 0
    else if j.val < 6400 then 1 else if j.val < 6656 then 0 else if j.val < 8704 then 1 else 0) = 1
  split_ifs <;> first | rfl | (exfalso; omega)

variable (h : S16384x4096.Idx → EReal) (w : S4096x25664.Idx → EReal) (g2 g3 g4 : S2x128.Idx → EReal) (i : S16384x9728.Idx)

/-- A column is its lane of its group. -/
theorem grp_lane (j : Fin 9728) : grp j (lane j) = j := Fin.ext (by unfold grp lane; show j.val / 128 * 128 + j.val % 128 = j.val; omega)

/-- A column that is not normalised is a column of the product. -/
theorem mix_plain (n : Fin 25664) (hn : ((i 1).val < 1600 ∧ n.val = (i 1).val) ∨ (1600 ≤ (i 1).val ∧ (i 1).val < 1632 ∧ n.val + 32 = (i 1).val)
      ∨ (1632 ≤ (i 1).val ∧ (i 1).val < 1664 ∧ n.val + 96 = (i 1).val) ∨ (2048 ≤ (i 1).val ∧ n.val + 448 = (i 1).val))
    (hf : flagArr (ix1 (i 1) : S9728.Idx) = 0) (hg : gainArr g2 g3 g4 (ix1 (i 1) : S9728.Idx) = 1) :
    mix h w g2 g3 g4 i = prod h w (i 0) n := by
  unfold mix prod
  rw [hf, hg, cell_zero, mul_one]
  exact Finset.sum_congr rfl fun k _ => congrArg (_ * ·) ((congrArg (fun j : Fin 9728 => weightArr w (ix2 j k : S9728x4096.Idx)) (grp_lane (i 1))).trans (w_of w (i 1) k n hn))

/-- The columns between the shared key's and the first queries are zero. -/
theorem mix_zero (h0 : 1664 ≤ (i 1).val) (h1 : (i 1).val < 2048) : mix h w g2 g3 g4 i = 0 := by
  unfold mix
  rw [flag_off (i 1) (by omega), cell_zero, Finset.sum_eq_zero, zero_mul]
  intro k _
  exact (congrArg (_ * ·) ((congrArg (fun j : Fin 9728 => weightArr w (ix2 j k : S9728x4096.Idx)) (grp_lane (i 1))).trans (w_zero w (i 1) k h0 h1))).trans (mul_zero _)

/-- A normalised column is the normalised column of the product times the gain. -/
theorem mix_norm (p : Fin 128 → Fin 25664) (hp : ∀ e, 2048 ≤ (grp (i 1) e).val ∧ (p e).val + 448 = (grp (i 1) e).val)
    (hf : flagArr (ix1 (i 1) : S9728.Idx) = 1) :
    mix h w g2 g3 g4 i = norm (fun e => prod h w (i 0) (p e)) (lane (i 1)) * gainArr g2 g3 g4 (ix1 (i 1) : S9728.Idx) := by
  have e : (fun d => ∑ k : Fin 4096, h (ix2 (i 0) k) * weightArr w (ix2 (grp (i 1) d) k : S9728x4096.Idx)) = fun d => prod h w (i 0) (p d) :=
    funext fun d => Finset.sum_congr rfl fun k _ => congrArg (_ * ·) (w_of w _ k (p d) (.inr (.inr (.inr (hp d)))))
  unfold mix
  rw [e, hf]
  unfold cell Cert.Reference7Ideal.RefValue.norm
  rw [if_pos zero_lt_one, mul_assoc]

/-- The word for 128. -/
theorem bits_128 : Ideal.ofBits .f32 0x43000000#32 = ((128 : ℝ) : EReal) := by
  simp [Ideal.ofBits, Ideal.ieee, -EReal.coe_mul]; norm_num

/-- The word for 2. -/
theorem bits_2 : Ideal.ofBits .f32 0x40000000#32 = ((2 : ℝ) : EReal) := by
  simp [Ideal.ofBits, Ideal.ieee, -EReal.coe_mul]; norm_num

/-- The queries' scale is not zero. -/
theorem scale_ne : scale ≠ 0 := by
  unfold scale
  rw [bits_128, bits_2, Ideal.sqrt_coe, Ideal.log_coe, if_neg (by norm_num), if_neg (by norm_num), ← EReal.coe_mul]
  exact EReal.coe_ne_zero.mpr (mul_pos (Real.sqrt_pos.2 (by norm_num)) (Real.log_pos one_lt_two)).ne'

/-- The scale may divide the gain in place of the product. -/
theorem div_scale (a b : EReal) : Ideal.div (a * b) scale = a * Ideal.div b scale := by
  unfold Ideal.div
  rw [if_neg scale_ne, if_neg scale_ne, mul_assoc]

end Cert.Kernel7Ideal.RefValue

namespace Cert.Reference7Ideal.RefValue

open Cert.Reference7Ideal Cert.Reference7Ideal.Read
open Cert.Kernel7Ideal.RefValue

variable (x0 : (⟨S16384x4096, .bf16⟩ : BufTy).Contents (Elt Ideal)) (x1 : (⟨S4096x25664, .f32⟩ : BufTy).Contents (Elt Ideal))
  (x2 x3 x4 : (⟨S2x128, .f32⟩ : BufTy).Contents (Elt Ideal)) (i : S16384x9728.Idx)

/-- The reference's piece 1 of sixteen is the projection there. -/
theorem piece_0 (h0 : 0 ≤ (i 1).val) (h1 : (i 1).val < 1024) :
    val_main_v128 (F := Ideal) x0 x1 x2 x3 x4 i = mix x0 x1 x2 x3 x4 i := by
  refine (concatenate_apply_piece (t := S16384x9728) 1 _ _ i 0 (by show 0 < 16; decide) S16384x1024 _ rfl rfl 0 rfl (ix2 (i 0) (⟨(i 1).val - 0, by omega⟩ : Fin 1024) : S16384x1024.Idx)
    (fun b hb => match b with | ⟨0, _⟩ => rfl | ⟨1, _⟩ => absurd rfl hb) (by show 0 + ((i 1).val - 0) = (i 1).val; omega)).trans ?_
  rw [val_main_v3_apply]
  refine (v2_read x0 x1 _ (i 0) ⟨0 + ((i 1).val - 0), by omega⟩ rfl (by show (i 1).val - 0 = 0 + ((i 1).val - 0); omega)).trans
    (mix_plain _ _ _ _ _ i _ (by dsimp only; omega) (flag_off _ (by omega)) (gain_0 _ _ _ (i 1) (by omega) (by omega))).symm

/-- The reference's piece 2 of sixteen is the projection there. -/
theorem piece_1 (h0 : 1024 ≤ (i 1).val) (h1 : (i 1).val < 1536) :
    val_main_v128 (F := Ideal) x0 x1 x2 x3 x4 i = mix x0 x1 x2 x3 x4 i := by
  refine (concatenate_apply_piece (t := S16384x9728) 1 _ _ i 1 (by show 1 < 16; decide) S16384x512 _ rfl rfl 1024 rfl (ix2 (i 0) (⟨(i 1).val - 1024, by omega⟩ : Fin 512) : S16384x512.Idx)
    (fun b hb => match b with | ⟨0, _⟩ => rfl | ⟨1, _⟩ => absurd rfl hb) (by show 1024 + ((i 1).val - 1024) = (i 1).val; omega)).trans ?_
  rw [val_main_v4_apply]
  refine (v2_read x0 x1 _ (i 0) ⟨1024 + ((i 1).val - 1024), by omega⟩ rfl (by show 1024 + ((i 1).val - 1024) = 1024 + ((i 1).val - 1024); rfl)).trans
    (mix_plain _ _ _ _ _ i _ (by dsimp only; omega) (flag_off _ (by omega)) (gain_0 _ _ _ (i 1) (by omega) (by omega))).symm

/-- The reference's piece 3 of sixteen is the projection there. -/
theorem piece_2 (h0 : 1536 ≤ (i 1).val) (h1 : (i 1).val < 1568) :
    val_main_v128 (F := Ideal) x0 x1 x2 x3 x4 i = mix x0 x1 x2 x3 x4 i := by
  refine (concatenate_apply_piece (t := S16384x9728) 1 _ _ i 2 (by show 2 < 16; decide) S16384x32 _ rfl rfl 1536 rfl (ix2 (i 0) (⟨(i 1).val - 1536, by omega⟩ : Fin 32) : S16384x32.Idx)
    (fun b hb => match b with | ⟨0, _⟩ => rfl | ⟨1, _⟩ => absurd rfl hb) (by show 1536 + ((i 1).val - 1536) = (i 1).val; omega)).trans ?_
  rw [val_main_v5_apply]
  refine (v2_read x0 x1 _ (i 0) ⟨1536 + ((i 1).val - 1536), by omega⟩ rfl (by show 1536 + ((i 1).val - 1536) = 1536 + ((i 1).val - 1536); rfl)).trans
    (mix_plain _ _ _ _ _ i _ (by dsimp only; omega) (flag_off _ (by omega)) (gain_0 _ _ _ (i 1) (by omega) (by omega))).symm

/-- The reference's piece 4 of sixteen is the projection there. -/
theorem piece_3 (h0 : 1568 ≤ (i 1).val) (h1 : (i 1).val < 1600) :
    val_main_v128 (F := Ideal) x0 x1 x2 x3 x4 i = mix x0 x1 x2 x3 x4 i := by
  refine (concatenate_apply_piece (t := S16384x9728) 1 _ _ i 3 (by show 3 < 16; decide) S16384x32 _ rfl rfl 1568 rfl (ix2 (i 0) (⟨(i 1).val - 1568, by omega⟩ : Fin 32) : S16384x32.Idx)
    (fun b hb => match b with | ⟨0, _⟩ => rfl | ⟨1, _⟩ => absurd rfl hb) (by show 1568 + ((i 1).val - 1568) = (i 1).val; omega)).trans ?_
  rw [val_main_v6_apply]
  refine (v2_read x0 x1 _ (i 0) ⟨1568 + ((i 1).val - 1568), by omega⟩ rfl (by show 1568 + ((i 1).val - 1568) = 1568 + ((i 1).val - 1568); rfl)).trans
    (mix_plain _ _ _ _ _ i _ (by dsimp only; omega) (flag_off _ (by omega)) (gain_0 _ _ _ (i 1) (by omega) (by omega))).symm

/-- The reference's piece 5 of sixteen is the projection there. -/
theorem piece_4 (h0 : 1600 ≤ (i 1).val) (h1 : (i 1).val < 1632) :
    val_main_v128 (F := Ideal) x0 x1 x2 x3 x4 i = mix x0 x1 x2 x3 x4 i := by
  refine (concatenate_apply_piece (t := S16384x9728) 1 _ _ i 4 (by show 4 < 16; decide) S16384x32 _ rfl rfl 1600 rfl (ix2 (i 0) (⟨(i 1).val - 1600, by omega⟩ : Fin 32) : S16384x32.Idx)
    (fun b hb => match b with | ⟨0, _⟩ => rfl | ⟨1, _⟩ => absurd rfl hb) (by show 1600 + ((i 1).val - 1600) = (i 1).val; omega)).trans ?_
  rw [val_main_v6_apply]
  refine (v2_read x0 x1 _ (i 0) ⟨1568 + ((i 1).val - 1600), by omega⟩ rfl (by show 1568 + ((i 1).val - 1600) = 1568 + ((i 1).val - 1600); rfl)).trans
    (mix_plain _ _ _ _ _ i _ (by dsimp only; omega) (flag_off _ (by omega)) (gain_0 _ _ _ (i 1) (by omega) (by omega))).symm

/-- The reference's piece 6 of sixteen is the projection there. -/
theorem piece_5 (h0 : 1632 ≤ (i 1).val) (h1 : (i 1).val < 1664) :
    val_main_v128 (F := Ideal) x0 x1 x2 x3 x4 i = mix x0 x1 x2 x3 x4 i := by
  refine (concatenate_apply_piece (t := S16384x9728) 1 _ _ i 5 (by show 5 < 16; decide) S16384x32 _ rfl rfl 1632 rfl (ix2 (i 0) (⟨(i 1).val - 1632, by omega⟩ : Fin 32) : S16384x32.Idx)
    (fun b hb => match b with | ⟨0, _⟩ => rfl | ⟨1, _⟩ => absurd rfl hb) (by show 1632 + ((i 1).val - 1632) = (i 1).val; omega)).trans ?_
  rw [val_main_v5_apply]
  refine (v2_read x0 x1 _ (i 0) ⟨1536 + ((i 1).val - 1632), by omega⟩ rfl (by show 1536 + ((i 1).val - 1632) = 1536 + ((i 1).val - 1632); rfl)).trans
    (mix_plain _ _ _ _ _ i _ (by dsimp only; omega) (flag_off _ (by omega)) (gain_0 _ _ _ (i 1) (by omega) (by omega))).symm

/-- The reference's piece 7 of sixteen is the projection there. -/
theorem piece_6 (h0 : 1664 ≤ (i 1).val) (h1 : (i 1).val < 2048) :
    val_main_v128 (F := Ideal) x0 x1 x2 x3 x4 i = mix x0 x1 x2 x3 x4 i := by
  refine (concatenate_apply_piece (t := S16384x9728) 1 _ _ i 6 (by show 6 < 16; decide) S16384x384 _ rfl rfl 1664 rfl (ix2 (i 0) (⟨(i 1).val - 1664, by omega⟩ : Fin 384) : S16384x384.Idx)
    (fun b hb => match b with | ⟨0, _⟩ => rfl | ⟨1, _⟩ => absurd rfl hb) (by show 1664 + ((i 1).val - 1664) = (i 1).val; omega)).trans ?_
  rw [val_main_v19_apply, val_main_cst_1_apply, mix_zero _ _ _ _ _ i h0 h1]
  simp only [pointwise]

/-- The reference's piece 8 of sixteen is the projection there. -/
theorem piece_7 (h0 : 2048 ≤ (i 1).val) (h1 : (i 1).val < 3072) :
    val_main_v128 (F := Ideal) x0 x1 x2 x3 x4 i = mix x0 x1 x2 x3 x4 i := by
  refine (concatenate_apply_piece (t := S16384x9728) 1 _ _ i 7 (by show 7 < 16; decide) S16384x1024 _ rfl rfl 2048 rfl (ix2 (i 0) (⟨(i 1).val - 2048, by omega⟩ : Fin 1024) : S16384x1024.Idx)
    (fun b hb => match b with | ⟨0, _⟩ => rfl | ⟨1, _⟩ => absurd rfl hb) (by show 2048 + ((i 1).val - 2048) = (i 1).val; omega)).trans ?_
  have e : (⟨((i 1).val - 2048) % 128, Nat.mod_lt _ (by decide)⟩ : Fin 128) = lane (i 1) :=
    Fin.ext (by show ((i 1).val - 2048) % 128 = (i 1).val % 128; omega)
  refine (dq_read x0 x1 x2 _ (by show (i 1).val - 2048 < 1024; omega)).trans ?_
  rw [mix_norm _ _ _ _ _ i (fun e => ⟨1600 + ((i 1).val - 2048) / 128 * 128 + e.val, by omega⟩)
    (fun e => by unfold grp; dsimp only; omega) (flag_on _ (by omega)), gain_1 _ _ _ (i 1) (by omega) (by omega)]
  refine Eq.trans (congrArg (fun l : Fin 128 => Ideal.div (norm (fun e => prod x0 x1 (i 0) ⟨1600 + ((i 1).val - 2048) / 128 * 128 + e.val, by omega⟩) l * x2 (ix2 0 l : S2x128.Idx)) scale) e) ?_
  exact div_scale _ _

/-- The reference's piece 9 of sixteen is the projection there. -/
theorem piece_8 (h0 : 3072 ≤ (i 1).val) (h1 : (i 1).val < 4096) :
    val_main_v128 (F := Ideal) x0 x1 x2 x3 x4 i = mix x0 x1 x2 x3 x4 i := by
  refine (concatenate_apply_piece (t := S16384x9728) 1 _ _ i 8 (by show 8 < 16; decide) S16384x1024 _ rfl rfl 3072 (by simp only [List.take_succ_cons, List.take_zero, List.map_cons, List.map_nil, List.sum_cons, List.sum_nil]; show 1024 + (512 + (32 + (32 + (32 + (32 + (384 + (1024 + 0))))))) = 3072; rfl) (ix2 (i 0) (⟨(i 1).val - 3072, by omega⟩ : Fin 1024) : S16384x1024.Idx)
    (fun b hb => match b with | ⟨0, _⟩ => rfl | ⟨1, _⟩ => absurd rfl hb) (by show 3072 + ((i 1).val - 3072) = (i 1).val; omega)).trans ?_
  have e : (⟨((i 1).val - 3072) % 128, Nat.mod_lt _ (by decide)⟩ : Fin 128) = lane (i 1) :=
    Fin.ext (by show ((i 1).val - 3072) % 128 = (i 1).val % 128; omega)
  refine (dk_read x0 x1 x2 _ (by show (i 1).val - 3072 < 1024; omega)).trans ?_
  rw [mix_norm _ _ _ _ _ i (fun e => ⟨2624 + ((i 1).val - 3072) / 128 * 128 + e.val, by omega⟩)
    (fun e => by unfold grp; dsimp only; omega) (flag_on _ (by omega)), gain_2 _ _ _ (i 1) (by omega) (by omega)]
  exact congrArg (fun l : Fin 128 => norm (fun e => prod x0 x1 (i 0) ⟨2624 + ((i 1).val - 3072) / 128 * 128 + e.val, by omega⟩) l * x2 (ix2 1 l : S2x128.Idx)) e

/-- The reference's piece 10 of sixteen is the projection there. -/
theorem piece_9 (h0 : 4096 ≤ (i 1).val) (h1 : (i 1).val < 5120) :
    val_main_v128 (F := Ideal) x0 x1 x2 x3 x4 i = mix x0 x1 x2 x3 x4 i := by
  refine (concatenate_apply_piece (t := S16384x9728) 1 _ _ i 9 (by show 9 < 16; decide) S16384x1024 _ rfl rfl 4096 (by simp only [List.take_succ_cons, List.take_zero, List.map_cons, List.map_nil, List.sum_cons, List.sum_nil]; show 1024 + (512 + (32 + (32 + (32 + (32 + (384 + (1024 + (1024 + 0)))))))) = 4096; rfl) (ix2 (i 0) (⟨(i 1).val - 4096, by omega⟩ : Fin 1024) : S16384x1024.Idx)
    (fun b hb => match b with | ⟨0, _⟩ => rfl | ⟨1, _⟩ => absurd rfl hb) (by show 4096 + ((i 1).val - 4096) = (i 1).val; omega)).trans ?_
  rw [val_main_v9_apply]
  refine (v2_read x0 x1 _ (i 0) ⟨3648 + ((i 1).val - 4096), by omega⟩ rfl (by show 3648 + ((i 1).val - 4096) = 3648 + ((i 1).val - 4096); rfl)).trans
    (mix_plain _ _ _ _ _ i _ (by dsimp only; omega) (flag_off _ (by omega)) (gain_3 _ _ _ (i 1) (by omega) (by omega))).symm

/-- The reference's piece 11 of sixteen is the projection there. -/
theorem piece_10 (h0 : 5120 ≤ (i 1).val) (h1 : (i 1).val < 6144) :
    val_main_v128 (F := Ideal) x0 x1 x2 x3 x4 i = mix x0 x1 x2 x3 x4 i := by
  refine (concatenate_apply_piece (t := S16384x9728) 1 _ _ i 10 (by show 10 < 16; decide) S16384x1024 _ rfl rfl 5120 (by simp only [List.take_succ_cons, List.take_zero, List.map_cons, List.map_nil, List.sum_cons, List.sum_nil]; show 1024 + (512 + (32 + (32 + (32 + (32 + (384 + (1024 + (1024 + (1024 + 0))))))))) = 5120; rfl) (ix2 (i 0) (⟨(i 1).val - 5120, by omega⟩ : Fin 1024) : S16384x1024.Idx)
    (fun b hb => match b with | ⟨0, _⟩ => rfl | ⟨1, _⟩ => absurd rfl hb) (by show 5120 + ((i 1).val - 5120) = (i 1).val; omega)).trans ?_
  have e : (⟨((i 1).val - 5120) % 128, Nat.mod_lt _ (by decide)⟩ : Fin 128) = lane (i 1) :=
    Fin.ext (by show ((i 1).val - 5120) % 128 = (i 1).val % 128; omega)
  refine (wq_read x0 x1 x3 _ (by show (i 1).val - 5120 < 1024; omega)).trans ?_
  rw [mix_norm _ _ _ _ _ i (fun e => ⟨4672 + ((i 1).val - 5120) / 128 * 128 + e.val, by omega⟩)
    (fun e => by unfold grp; dsimp only; omega) (flag_on _ (by omega)), gain_4 _ _ _ (i 1) (by omega) (by omega)]
  refine Eq.trans (congrArg (fun l : Fin 128 => Ideal.div (norm (fun e => prod x0 x1 (i 0) ⟨4672 + ((i 1).val - 5120) / 128 * 128 + e.val, by omega⟩) l * x3 (ix2 0 l : S2x128.Idx)) scale) e) ?_
  exact div_scale _ _

/-- The reference's piece 12 of sixteen is the projection there. -/
theorem piece_11 (h0 : 6144 ≤ (i 1).val) (h1 : (i 1).val < 6400) :
    val_main_v128 (F := Ideal) x0 x1 x2 x3 x4 i = mix x0 x1 x2 x3 x4 i := by
  refine (concatenate_apply_piece (t := S16384x9728) 1 _ _ i 11 (by show 11 < 16; decide) S16384x256 _ rfl rfl 6144 (by simp only [List.take_succ_cons, List.take_zero, List.map_cons, List.map_nil, List.sum_cons, List.sum_nil]; show 1024 + (512 + (32 + (32 + (32 + (32 + (384 + (1024 + (1024 + (1024 + (1024 + 0)))))))))) = 6144; rfl) (ix2 (i 0) (⟨(i 1).val - 6144, by omega⟩ : Fin 256) : S16384x256.Idx)
    (fun b hb => match b with | ⟨0, _⟩ => rfl | ⟨1, _⟩ => absurd rfl hb) (by show 6144 + ((i 1).val - 6144) = (i 1).val; omega)).trans ?_
  have e : (⟨((i 1).val - 6144) % 128, Nat.mod_lt _ (by decide)⟩ : Fin 128) = lane (i 1) :=
    Fin.ext (by show ((i 1).val - 6144) % 128 = (i 1).val % 128; omega)
  refine (wk_read x0 x1 x3 _ (by show (i 1).val - 6144 < 256; omega)).trans ?_
  rw [mix_norm _ _ _ _ _ i (fun e => ⟨5696 + ((i 1).val - 6144) / 128 * 128 + e.val, by omega⟩)
    (fun e => by unfold grp; dsimp only; omega) (flag_on _ (by omega)), gain_5 _ _ _ (i 1) (by omega) (by omega)]
  exact congrArg (fun l : Fin 128 => norm (fun e => prod x0 x1 (i 0) ⟨5696 + ((i 1).val - 6144) / 128 * 128 + e.val, by omega⟩) l * x3 (ix2 1 l : S2x128.Idx)) e

/-- The reference's piece 13 of sixteen is the projection there. -/
theorem piece_12 (h0 : 6400 ≤ (i 1).val) (h1 : (i 1).val < 6656) :
    val_main_v128 (F := Ideal) x0 x1 x2 x3 x4 i = mix x0 x1 x2 x3 x4 i := by
  refine (concatenate_apply_piece (t := S16384x9728) 1 _ _ i 12 (by show 12 < 16; decide) S16384x256 _ rfl rfl 6400 (by simp only [List.take_succ_cons, List.take_zero, List.map_cons, List.map_nil, List.sum_cons, List.sum_nil]; show 1024 + (512 + (32 + (32 + (32 + (32 + (384 + (1024 + (1024 + (1024 + (1024 + (256 + 0))))))))))) = 6400; rfl) (ix2 (i 0) (⟨(i 1).val - 6400, by omega⟩ : Fin 256) : S16384x256.Idx)
    (fun b hb => match b with | ⟨0, _⟩ => rfl | ⟨1, _⟩ => absurd rfl hb) (by show 6400 + ((i 1).val - 6400) = (i 1).val; omega)).trans ?_
  rw [val_main_v12_apply]
  refine (v2_read x0 x1 _ (i 0) ⟨5952 + ((i 1).val - 6400), by omega⟩ rfl (by show 5952 + ((i 1).val - 6400) = 5952 + ((i 1).val - 6400); rfl)).trans
    (mix_plain _ _ _ _ _ i _ (by dsimp only; omega) (flag_off _ (by omega)) (gain_6 _ _ _ (i 1) (by omega) (by omega))).symm

/-- The reference's piece 14 of sixteen is the projection there. -/
theorem piece_13 (h0 : 6656 ≤ (i 1).val) (h1 : (i 1).val < 7680) :
    val_main_v128 (F := Ideal) x0 x1 x2 x3 x4 i = mix x0 x1 x2 x3 x4 i := by
  refine (concatenate_apply_piece (t := S16384x9728) 1 _ _ i 13 (by show 13 < 16; decide) S16384x1024 _ rfl rfl 6656 (by simp only [List.take_succ_cons, List.take_zero, List.map_cons, List.map_nil, List.sum_cons, List.sum_nil]; show 1024 + (512 + (32 + (32 + (32 + (32 + (384 + (1024 + (1024 + (1024 + (1024 + (256 + (256 + 0)))))))))))) = 6656; rfl) (ix2 (i 0) (⟨(i 1).val - 6656, by omega⟩ : Fin 1024) : S16384x1024.Idx)
    (fun b hb => match b with | ⟨0, _⟩ => rfl | ⟨1, _⟩ => absurd rfl hb) (by show 6656 + ((i 1).val - 6656) = (i 1).val; omega)).trans ?_
  have e : (⟨((i 1).val - 6656) % 128, Nat.mod_lt _ (by decide)⟩ : Fin 128) = lane (i 1) :=
    Fin.ext (by show ((i 1).val - 6656) % 128 = (i 1).val % 128; omega)
  refine (fq_read x0 x1 x4 _ (by show (i 1).val - 6656 < 1024; omega)).trans ?_
  rw [mix_norm _ _ _ _ _ i (fun e => ⟨6208 + ((i 1).val - 6656) / 128 * 128 + e.val, by omega⟩)
    (fun e => by unfold grp; dsimp only; omega) (flag_on _ (by omega)), gain_7 _ _ _ (i 1) (by omega) (by omega)]
  refine Eq.trans (congrArg (fun l : Fin 128 => Ideal.div (norm (fun e => prod x0 x1 (i 0) ⟨6208 + ((i 1).val - 6656) / 128 * 128 + e.val, by omega⟩) l * x4 (ix2 0 l : S2x128.Idx)) scale) e) ?_
  exact div_scale _ _

/-- The reference's piece 15 of sixteen is the projection there. -/
theorem piece_14 (h0 : 7680 ≤ (i 1).val) (h1 : (i 1).val < 8704) :
    val_main_v128 (F := Ideal) x0 x1 x2 x3 x4 i = mix x0 x1 x2 x3 x4 i := by
  refine (concatenate_apply_piece (t := S16384x9728) 1 _ _ i 14 (by show 14 < 16; decide) S16384x1024 _ rfl rfl 7680 (by simp only [List.take_succ_cons, List.take_zero, List.map_cons, List.map_nil, List.sum_cons, List.sum_nil]; show 1024 + (512 + (32 + (32 + (32 + (32 + (384 + (1024 + (1024 + (1024 + (1024 + (256 + (256 + (1024 + 0))))))))))))) = 7680; rfl) (ix2 (i 0) (⟨(i 1).val - 7680, by omega⟩ : Fin 1024) : S16384x1024.Idx)
    (fun b hb => match b with | ⟨0, _⟩ => rfl | ⟨1, _⟩ => absurd rfl hb) (by show 7680 + ((i 1).val - 7680) = (i 1).val; omega)).trans ?_
  have e : (⟨((i 1).val - 7680) % 128, Nat.mod_lt _ (by decide)⟩ : Fin 128) = lane (i 1) :=
    Fin.ext (by show ((i 1).val - 7680) % 128 = (i 1).val % 128; omega)
  refine (fk_read x0 x1 x4 _ (by show (i 1).val - 7680 < 1024; omega)).trans ?_
  rw [mix_norm _ _ _ _ _ i (fun e => ⟨7232 + ((i 1).val - 7680) / 128 * 128 + e.val, by omega⟩)
    (fun e => by unfold grp; dsimp only; omega) (flag_on _ (by omega)), gain_8 _ _ _ (i 1) (by omega) (by omega)]
  exact congrArg (fun l : Fin 128 => norm (fun e => prod x0 x1 (i 0) ⟨7232 + ((i 1).val - 7680) / 128 * 128 + e.val, by omega⟩) l * x4 (ix2 1 l : S2x128.Idx)) e

/-- The reference's piece 16 of sixteen is the projection there. -/
theorem piece_15 (h0 : 8704 ≤ (i 1).val) (h1 : (i 1).val < 9728) :
    val_main_v128 (F := Ideal) x0 x1 x2 x3 x4 i = mix x0 x1 x2 x3 x4 i := by
  refine (concatenate_apply_piece (t := S16384x9728) 1 _ _ i 15 (by show 15 < 16; decide) S16384x1024 _ rfl rfl 8704 (by simp only [List.take_succ_cons, List.take_zero, List.map_cons, List.map_nil, List.sum_cons, List.sum_nil]; show 1024 + (512 + (32 + (32 + (32 + (32 + (384 + (1024 + (1024 + (1024 + (1024 + (256 + (256 + (1024 + (1024 + 0)))))))))))))) = 8704; rfl) (ix2 (i 0) (⟨(i 1).val - 8704, by omega⟩ : Fin 1024) : S16384x1024.Idx)
    (fun b hb => match b with | ⟨0, _⟩ => rfl | ⟨1, _⟩ => absurd rfl hb) (by show 8704 + ((i 1).val - 8704) = (i 1).val; omega)).trans ?_
  rw [val_main_v15_apply]
  refine (v2_read x0 x1 _ (i 0) ⟨8256 + ((i 1).val - 8704), by omega⟩ rfl (by show 8256 + ((i 1).val - 8704) = 8256 + ((i 1).val - 8704); rfl)).trans
    (mix_plain _ _ _ _ _ i _ (by dsimp only; omega) (flag_off _ (by omega)) (gain_9 _ _ _ (i 1) (by omega) (by omega))).symm

/-- The reference's value is the same projection. -/
theorem val_eq : val_main_v129 (F := Ideal) x0 x1 x2 x3 x4 = mix x0 x1 x2 x3 x4 := by
  funext i
  rw [val_main_v129_apply]
  have hi : (i 1).val < 9728 := (i 1).isLt
  show val_main_v128 (F := Ideal) x0 x1 x2 x3 x4 i = _
  by_cases c0 : (i 1).val < 1024
  · exact piece_0 x0 x1 x2 x3 x4 i (by omega) c0
  by_cases c1 : (i 1).val < 1536
  · exact piece_1 x0 x1 x2 x3 x4 i (by omega) c1
  by_cases c2 : (i 1).val < 1568
  · exact piece_2 x0 x1 x2 x3 x4 i (by omega) c2
  by_cases c3 : (i 1).val < 1600
  · exact piece_3 x0 x1 x2 x3 x4 i (by omega) c3
  by_cases c4 : (i 1).val < 1632
  · exact piece_4 x0 x1 x2 x3 x4 i (by omega) c4
  by_cases c5 : (i 1).val < 1664
  · exact piece_5 x0 x1 x2 x3 x4 i (by omega) c5
  by_cases c6 : (i 1).val < 2048
  · exact piece_6 x0 x1 x2 x3 x4 i (by omega) c6
  by_cases c7 : (i 1).val < 3072
  · exact piece_7 x0 x1 x2 x3 x4 i (by omega) c7
  by_cases c8 : (i 1).val < 4096
  · exact piece_8 x0 x1 x2 x3 x4 i (by omega) c8
  by_cases c9 : (i 1).val < 5120
  · exact piece_9 x0 x1 x2 x3 x4 i (by omega) c9
  by_cases c10 : (i 1).val < 6144
  · exact piece_10 x0 x1 x2 x3 x4 i (by omega) c10
  by_cases c11 : (i 1).val < 6400
  · exact piece_11 x0 x1 x2 x3 x4 i (by omega) c11
  by_cases c12 : (i 1).val < 6656
  · exact piece_12 x0 x1 x2 x3 x4 i (by omega) c12
  by_cases c13 : (i 1).val < 7680
  · exact piece_13 x0 x1 x2 x3 x4 i (by omega) c13
  by_cases c14 : (i 1).val < 8704
  · exact piece_14 x0 x1 x2 x3 x4 i (by omega) c14
  exact piece_15 x0 x1 x2 x3 x4 i (by omega) (by omega)

end Cert.Reference7Ideal.RefValue

namespace Cert.Mix7

/-- The mixing projection's kernel and its reference compute one function of the arguments. -/
theorem algebraic : Cert.algebraic_Kernel7Ideal_Reference7Ideal := fun m g m' g' _ hag =>
  ⟨fun c => Cert.Kernel7Ideal.RefValue.mix _ _ _ _ _, Cert.Kernel7Ideal.RefValue.run m g,
    (θ_run _ _ _).mono (fun _ h c => ⟨(h c).1.trans ((Cert.Reference7Ideal.RefValue.val_eq _ _ _ _ _).trans (by
      rw [(hag c).1, (hag c).2.1, (hag c).2.2.1, (hag c).2.2.2.1, (hag c).2.2.2.2])), (h c).2⟩) (Cert.Reference7Ideal.Value.run m' g')⟩

end Cert.Mix7

end
-- ==== Proof.lean ====
/- The claims of this certificate, put together: the frames are the generated ones, and each value
   claim is proved in a module of its own. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7
public import proofs.«01_k».proof.Proof.Gen.KernelIdeal.Frame
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Pre_finite_qk
public import proofs.«01_k».proof.Proof.Attn
public import proofs.«01_k».proof.Proof.Swiglu2
public import proofs.«01_k».proof.Proof.Gates3
public import proofs.«01_k».proof.Proof.Residual4
public import proofs.«01_k».proof.Proof.Merge5
public import proofs.«01_k».proof.Proof.Residual6
public import proofs.«01_k».proof.Proof.Mix7
public import proofs.«01_k».proof.Proof.MixRun7

@[expose] public section

noncomputable section

namespace Cert.Proof

open Idealize.ShloMosaic Idealize.SL.Sem Cert.Kernel

/-- Every frame, every idealization and every value claim of the programs. -/
theorem claim : Cert.Claim := ⟨Cert.Kernel.Gen.facts, Cert.Kernel2.Gen.facts, Cert.Kernel3.Gen.facts, Cert.Kernel4.Gen.facts, Cert.Kernel5.Gen.facts, Cert.Kernel6.Gen.facts, Cert.Kernel7.Gen.facts, Cert.KernelIdeal.Gen.facts, Cert.Kernel2Ideal.Gen.facts, Cert.Kernel3Ideal.Gen.facts, Cert.Kernel4Ideal.Gen.facts, Cert.Kernel5Ideal.Gen.facts, Cert.Kernel6Ideal.Gen.facts, Cert.Kernel7Ideal.Gen.facts, Cert.ReferenceIdeal.Gen.facts, Cert.Reference2Ideal.Gen.facts, Cert.Reference3Ideal.Gen.facts, Cert.Reference4Ideal.Gen.facts, Cert.Reference5Ideal.Gen.facts, Cert.Reference6Ideal.Gen.facts, Cert.Reference7Ideal.Gen.facts, Cert.Pre_finite_qk.Gen.facts,
  fun m ρ _ => Cert.Kernel.Gen.frame m ρ,
  fun m ρ _ => Cert.Kernel2.Gen.frame m ρ,
  fun m ρ _ => Cert.Kernel3.Gen.frame m ρ,
  fun m ρ _ => Cert.Kernel4.Gen.frame m ρ,
  fun m ρ _ => Cert.Kernel5.Gen.frame m ρ,
  fun m ρ _ => Cert.Kernel6.Gen.frame m ρ,
  fun m ρ _ => Cert.Kernel7.Mix.frame m ρ,
  fun m ρ _ => Cert.KernelIdeal.Gen.frame m ρ,
  fun m ρ _ => Cert.KernelIdeal.Gen.frame m ρ,
  fun m ρ _ => Cert.Kernel2Ideal.Gen.frame m ρ,
  fun m ρ _ => Cert.Kernel3Ideal.Gen.frame m ρ,
  fun m ρ _ => Cert.Kernel4Ideal.Gen.frame m ρ,
  fun m ρ _ => Cert.Kernel5Ideal.Gen.frame m ρ,
  fun m ρ _ => Cert.Kernel6Ideal.Gen.frame m ρ,
  fun m ρ _ => Cert.Kernel7Ideal.Mix.frame m ρ,
  fun m ρ _ => (θ_run _ _ _).mono (fun r h => ⟨fun c => (h c).2, Idealize.ShloMosaic.sem_eq_zero_of_no_sems (by decide) r.2⟩) (Cert.ReferenceIdeal.Value.run m ρ),
  fun m ρ _ => (θ_run _ _ _).mono (fun r h => ⟨fun c => (h c).2, Idealize.ShloMosaic.sem_eq_zero_of_no_sems (by decide) r.2⟩) (Cert.ReferenceIdeal.Value.run m ρ),
  fun m ρ _ => (θ_run _ _ _).mono (fun r h => ⟨fun c => (h c).2, Idealize.ShloMosaic.sem_eq_zero_of_no_sems (by decide) r.2⟩) (Cert.Reference2Ideal.Value.run m ρ),
  fun m ρ _ => (θ_run _ _ _).mono (fun r h => ⟨fun c => (h c).2, Idealize.ShloMosaic.sem_eq_zero_of_no_sems (by decide) r.2⟩) (Cert.Reference3Ideal.Value.run m ρ),
  fun m ρ _ => (θ_run _ _ _).mono (fun r h => ⟨fun c => (h c).2, Idealize.ShloMosaic.sem_eq_zero_of_no_sems (by decide) r.2⟩) (Cert.Reference4Ideal.Value.run m ρ),
  fun m ρ _ => (θ_run _ _ _).mono (fun r h => ⟨fun c => (h c).2, Idealize.ShloMosaic.sem_eq_zero_of_no_sems (by decide) r.2⟩) (Cert.Reference5Ideal.Value.run m ρ),
  fun m ρ _ => (θ_run _ _ _).mono (fun r h => ⟨fun c => (h c).2, Idealize.ShloMosaic.sem_eq_zero_of_no_sems (by decide) r.2⟩) (Cert.Reference6Ideal.Value.run m ρ),
  fun m ρ _ => (θ_run _ _ _).mono (fun r h => ⟨fun c => (h c).2, Idealize.ShloMosaic.sem_eq_zero_of_no_sems (by decide) r.2⟩) (Cert.Reference7Ideal.Value.run m ρ),
  trivial,
  trivial,
  trivial,
  trivial,
  trivial,
  trivial,
  trivial,
  Cert.Attn.algebraic,
  Cert.Swiglu2.algebraic,
  Cert.Gates3.algebraic,
  Cert.Residual4.algebraic,
  Cert.Merge5.algebraic,
  Cert.Residual6.algebraic,
  Cert.Mix7.algebraic⟩

end Cert.Proof

end
